-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_ReferenceExactIdeal (m : (ℓ : Loc Cert.ReferenceExactIdeal.nD Cert.ReferenceExactIdeal.τ Cert.ReferenceExactIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceExactIdeal [hReferenceExactIdeal : Cert.ReferenceExactIdeal.Facts] : Prop :=
  ∀ (m : (ℓ : Loc Cert.ReferenceExactIdeal.nD Cert.ReferenceExactIdeal.τ Cert.ReferenceExactIdeal.sig) → Buf (Elt Ideal) ℓ) (g : Dev Cert.ReferenceExactIdeal.nD → PrngReg), Pre_ReferenceExactIdeal m →
    θ_run (Cert.ReferenceExactIdeal.defs (F := Ideal)) (onTc (τ := Cert.ReferenceExactIdeal.τ) (Cert.ReferenceExactIdeal.main (F := Ideal))) ⟨m, fun _ => 0, g⟩ (fun r => (∀ c : Dev Cert.ReferenceExactIdeal.nD,
      r.2.mem ((c.tc : Thread Cert.ReferenceExactIdeal.nD Cert.ReferenceExactIdeal.τ).loc Cert.ReferenceExactIdeal.main_arg0) = m ((c.tc : Thread Cert.ReferenceExactIdeal.nD Cert.ReferenceExactIdeal.τ).loc Cert.ReferenceExactIdeal.main_arg0)
      ∧ r.2.mem ((c.tc : Thread Cert.ReferenceExactIdeal.nD Cert.ReferenceExactIdeal.τ).loc Cert.ReferenceExactIdeal.main_arg1) = m ((c.tc : Thread Cert.ReferenceExactIdeal.nD Cert.ReferenceExactIdeal.τ).loc Cert.ReferenceExactIdeal.main_arg1)
      ∧ r.2.mem ((c.tc : Thread Cert.ReferenceExactIdeal.nD Cert.ReferenceExactIdeal.τ).loc Cert.ReferenceExactIdeal.main_arg2) = m ((c.tc : Thread Cert.ReferenceExactIdeal.nD Cert.ReferenceExactIdeal.τ).loc Cert.ReferenceExactIdeal.main_arg2)
      ∧ r.2.mem ((c.tc : Thread Cert.ReferenceExactIdeal.nD Cert.ReferenceExactIdeal.τ).loc Cert.ReferenceExactIdeal.main_arg3) = m ((c.tc : Thread Cert.ReferenceExactIdeal.nD Cert.ReferenceExactIdeal.τ).loc Cert.ReferenceExactIdeal.main_arg3)
      ∧ r.2.mem ((c.tc : Thread Cert.ReferenceExactIdeal.nD Cert.ReferenceExactIdeal.τ).loc Cert.ReferenceExactIdeal.main_arg4) = m ((c.tc : Thread Cert.ReferenceExactIdeal.nD Cert.ReferenceExactIdeal.τ).loc Cert.ReferenceExactIdeal.main_arg4)
      ∧ r.2.mem ((c.tc : Thread Cert.ReferenceExactIdeal.nD Cert.ReferenceExactIdeal.τ).loc Cert.ReferenceExactIdeal.main_arg5) = m ((c.tc : Thread Cert.ReferenceExactIdeal.nD Cert.ReferenceExactIdeal.τ).loc Cert.ReferenceExactIdeal.main_arg5))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReferenceExactIdeal : Cert.ReferenceExactIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_ReferenceExactIdeal (hReferenceExactIdeal := hReferenceExactIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x16x8x8 : Shape := ⟨4, ![16, 16, 8, 8]⟩
abbrev S16384x16x8x8 : Shape := ⟨4, ![16384, 16, 8, 8]⟩
abbrev S1024x1 : Shape := ⟨2, ![1024, 1]⟩
abbrev S1 : Shape := ⟨1, ![1]⟩
abbrev S_ : Shape := ⟨0, ![]⟩

class Facts : Prop where
  bcast_S_S16x16x8x8 : S_.BroadcastsInDim S16x16x8x8 (![] : Fin 0 → Fin S16x16x8x8.rank)
  bcast_S_S1024x1 : S_.BroadcastsInDim S1024x1 (![] : Fin 0 → Fin S1024x1.rank)
  bcast_S_S1 : S_.BroadcastsInDim S1 (![] : Fin 0 → Fin S1.rank)

variable [Facts]

def fn {F : FTy → Type} [FloatOps F] (main_arg0 : FVec F S16x16x8x8 .f32) (main_arg1 : FVec F S16384x16x8x8 .f32) (main_arg2 : FVec F S1024x1 .f32) (main_arg3 : FVec F S1 .f32) (main_arg4 : FVec F S1024x1 .f32) (main_arg5 : FVec F S1 .f32) : IVec S16x16x8x8 1 × IVec S1024x1 1 × IVec S1 1 × IVec S1024x1 1 × IVec S1 1 :=
  let main_v0 : FVec F S16x16x8x8 .f32 := Host.absf main_arg0
  let main_cst : FVec F S_ .f32 := constant S_ .f32 0x7F800000#32
  let main_v1 : FVec F S16x16x8x8 .f32 := broadcastInDim S16x16x8x8 ![] bcast_S_S16x16x8x8 main_cst
  let main_v2 : IVec S16x16x8x8 1 := cmpf .olt main_v0 main_v1
  let main_v3 : FVec F S1024x1 .f32 := Host.absf main_arg2
  let main_cst_0 : FVec F S_ .f32 := constant S_ .f32 0x7F800000#32
  let main_v4 : FVec F S1024x1 .f32 := broadcastInDim S1024x1 ![] bcast_S_S1024x1 main_cst_0
  let main_v5 : IVec S1024x1 1 := cmpf .olt main_v3 main_v4
  let main_cst_1 : FVec F S_ .f32 := constant S_ .f32 0x7F800000#32
  let main_v6 : FVec F S1 .f32 := broadcastInDim S1 ![] bcast_S_S1 main_cst_1
  let main_v7 : IVec S1 1 := cmpf .olt main_arg3 main_v6
  let main_v8 : FVec F S1024x1 .f32 := Host.absf main_arg4
  let main_cst_2 : FVec F S_ .f32 := constant S_ .f32 0x7F800000#32
  let main_v9 : FVec F S1024x1 .f32 := broadcastInDim S1024x1 ![] bcast_S_S1024x1 main_cst_2
  let main_v10 : IVec S1024x1 1 := cmpf .olt main_v8 main_v9
  let main_cst_3 : FVec F S_ .f32 := constant S_ .f32 0x7F800000#32
  let main_v11 : FVec F S1 .f32 := broadcastInDim S1 ![] bcast_S_S1 main_cst_3
  let main_v12 : IVec S1 1 := cmpf .olt main_arg5 main_v11
  (main_v2, main_v5, main_v7, main_v10, main_v12)
-- ==== Kernel.lean ====
abbrev S16x16x8x8 : Shape := ⟨4, ![16, 16, 8, 8]⟩
abbrev S16384x16x8x8 : Shape := ⟨4, ![16384, 16, 8, 8]⟩
abbrev S1024x1 : Shape := ⟨2, ![1024, 1]⟩
abbrev S1 : Shape := ⟨1, ![1]⟩
abbrev S16x8x8x16 : Shape := ⟨4, ![16, 8, 8, 16]⟩
abbrev S1024x16 : Shape := ⟨2, ![1024, 16]⟩
abbrev S16x8x8x16384 : Shape := ⟨4, ![16, 8, 8, 16384]⟩
abbrev S1024x16384 : Shape := ⟨2, ![1024, 16384]⟩
abbrev S1x1024 : Shape := ⟨2, ![1, 1024]⟩
abbrev S1x1 : Shape := ⟨2, ![1, 1]⟩
abbrev S16x1024 : Shape := ⟨2, ![16, 1024]⟩
abbrev S1024x4096 : Shape := ⟨2, ![1024, 4096]⟩
abbrev S16x1 : Shape := ⟨2, ![16, 1]⟩
abbrev S16x64x16 : Shape := ⟨3, ![16, 64, 16]⟩
abbrev S1x16 : Shape := ⟨2, ![1, 16]⟩
abbrev S16 : Shape := ⟨1, ![16]⟩
abbrev S16x16 : Shape := ⟨2, ![16, 16]⟩
abbrev S16x4096 : Shape := ⟨2, ![16, 4096]⟩
abbrev S4096 : Shape := ⟨1, ![4096]⟩
abbrev S1x4096 : Shape := ⟨2, ![1, 4096]⟩

abbrev nBuf : Space → Nat
  | .hbm => 15
  | .vmem => 12
  | .smem => 0
  | _ => 0

abbrev bufTy : (tb : Table) → Fin (tcTables nBuf tb) → BufTy
  | .hbm, ⟨0, _⟩ => ⟨S16x16x8x8, .f32⟩
  | .hbm, ⟨1, _⟩ => ⟨S16384x16x8x8, .f32⟩
  | .hbm, ⟨2, _⟩ => ⟨S1024x1, .f32⟩
  | .hbm, ⟨3, _⟩ => ⟨S1, .f32⟩
  | .hbm, ⟨4, _⟩ => ⟨S1024x1, .f32⟩
  | .hbm, ⟨5, _⟩ => ⟨S1, .f32⟩
  | .hbm, ⟨6, _⟩ => ⟨S16x8x8x16, .f32⟩
  | .hbm, ⟨7, _⟩ => ⟨S1024x16, .f32⟩
  | .hbm, ⟨8, _⟩ => ⟨S16x8x8x16384, .f32⟩
  | .hbm, ⟨9, _⟩ => ⟨S1024x16384, .f32⟩
  | .hbm, ⟨10, _⟩ => ⟨S1x1024, .f32⟩
  | .hbm, ⟨11, _⟩ => ⟨S1x1024, .f32⟩
  | .hbm, ⟨12, _⟩ => ⟨S1x1, .f32⟩
  | .hbm, ⟨13, _⟩ => ⟨S1x1, .f32⟩
  | .hbm, ⟨14, _⟩ => ⟨S16x1024, .f32⟩
  | .local _ .vmem, ⟨0, _⟩ => ⟨S1024x16, .f32⟩
  | .local _ .vmem, ⟨1, _⟩ => ⟨S1x1024, .f32⟩
  | .local _ .vmem, ⟨2, _⟩ => ⟨S1x1, .f32⟩
  | .local _ .vmem, ⟨3, _⟩ => ⟨S1x1024, .f32⟩
  | .local _ .vmem, ⟨4, _⟩ => ⟨S1x1, .f32⟩
  | .local _ .vmem, ⟨5, _⟩ => ⟨S1024x4096, .f32⟩
  | .local _ .vmem, ⟨6, _⟩ => ⟨S1024x4096, .f32⟩
  | .local _ .vmem, ⟨7, _⟩ => ⟨S16x1024, .f32⟩
  | .local _ .vmem, ⟨8, _⟩ => ⟨S16x1024, .f32⟩
  | .local _ .vmem, ⟨9, _⟩ => ⟨S16x1, .f32⟩
  | .local _ .vmem, ⟨10, _⟩ => ⟨S16x1, .f32⟩
  | .local _ .vmem, ⟨11, _⟩ => ⟨S1024x16, .f32⟩
  | _, _ => ⟨S16x16x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_v0 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v96 : BitVec 1 := Scalar.cmpi .eq arg0 c3_i32
  let v97 : BitVec 32 := Scalar.extui v96
  let c0_i32_41 : BitVec 32 := 0#32
  let v98 : BitVec 1 := Scalar.cmpi .ne v97 c0_i32_41
  v98

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x16x8x8 : Shape := ⟨4, ![16, 16, 8, 8]⟩
abbrev S16384x16x8x8 : Shape := ⟨4, ![16384, 16, 8, 8]⟩
abbrev S1024x1 : Shape := ⟨2, ![1024, 1]⟩
abbrev S1 : Shape := ⟨1, ![1]⟩
abbrev S16x1024 : Shape := ⟨2, ![16, 1024]⟩
abbrev S16x1 : Shape := ⟨2, ![16, 1]⟩
abbrev S1x1 : Shape := ⟨2, ![1, 1]⟩
abbrev S_ : Shape := ⟨0, ![]⟩
abbrev S16384x1024 : Shape := ⟨2, ![16384, 1024]⟩
abbrev S16 : Shape := ⟨1, ![16]⟩
abbrev S16384 : Shape := ⟨1, ![16384]⟩
abbrev S16384x1 : Shape := ⟨2, ![16384, 1]⟩
abbrev S1024x16384 : Shape := ⟨2, ![1024, 16384]⟩
abbrev S16x16384 : Shape := ⟨2, ![16, 16384]⟩

abbrev nBuf : Space → Nat
  | .hbm => 93
  | .vmem => 0
  | .smem => 0
  | _ => 0

abbrev bufTy : (tb : Table) → Fin (tcTables nBuf tb) → BufTy
  | .hbm, ⟨0, _⟩ => ⟨S16x16x8x8, .f32⟩
  | .hbm, ⟨1, _⟩ => ⟨S16384x16x8x8, .f32⟩
  | .hbm, ⟨2, _⟩ => ⟨S1024x1, .f32⟩
  | .hbm, ⟨3, _⟩ => ⟨S1, .f32⟩
  | .hbm, ⟨4, _⟩ => ⟨S1024x1, .f32⟩
  | .hbm, ⟨5, _⟩ => ⟨S1, .f32⟩
  | .hbm, ⟨6, _⟩ => ⟨S16x1024, .f32⟩
  | .hbm, ⟨7, _⟩ => ⟨S16x1, .f32⟩
  | .hbm, ⟨8, _⟩ => ⟨S1x1, .f32⟩
  | .hbm, ⟨9, _⟩ => ⟨S16x1, .f32⟩
  | .hbm, ⟨10, _⟩ => ⟨S16x1, .f32⟩
  | .hbm, ⟨11, _⟩ => ⟨S_, .f32⟩
  | .hbm, ⟨12, _⟩ => ⟨S16x1, .f32⟩
  | .hbm, ⟨13, _⟩ => ⟨S16x1, .f32⟩
  | .hbm, ⟨14, _⟩ => ⟨S16x1, .f32⟩
  | .hbm, ⟨15, _⟩ => ⟨S16x1, .f32⟩
  | .hbm, ⟨16, _⟩ => ⟨S16x1, .i1⟩
  | .hbm, ⟨17, _⟩ => ⟨S16x1, .f32⟩
  | .hbm, ⟨18, _⟩ => ⟨S16x1, .f32⟩
  | .hbm, ⟨19, _⟩ => ⟨S16x1, .f32⟩
  | .hbm, ⟨20, _⟩ => ⟨S16x1, .f32⟩
  | .hbm, ⟨21, _⟩ => ⟨S16x1, .f32⟩
  | .hbm, ⟨22, _⟩ => ⟨S16x1, .f32⟩
  | .hbm, ⟨23, _⟩ => ⟨S16x1, .f32⟩
  | .hbm, ⟨24, _⟩ => ⟨S16x1, .f32⟩
  | .hbm, ⟨25, _⟩ => ⟨S16x1, .f32⟩
  | .hbm, ⟨26, _⟩ => ⟨S1x1, .f32⟩
  | .hbm, ⟨27, _⟩ => ⟨S16x1, .f32⟩
  | .hbm, ⟨28, _⟩ => ⟨S16x1, .f32⟩
  | .hbm, ⟨29, _⟩ => ⟨S_, .f32⟩
  | .hbm, ⟨30, _⟩ => ⟨S16x1, .f32⟩
  | .hbm, ⟨31, _⟩ => ⟨S16x1, .f32⟩
  | .hbm, ⟨32, _⟩ => ⟨S16x1, .f32⟩
  | .hbm, ⟨33, _⟩ => ⟨S16x1, .f32⟩
  | .hbm, ⟨34, _⟩ => ⟨S16x1, .i1⟩
  | .hbm, ⟨35, _⟩ => ⟨S16x1, .f32⟩
  | .hbm, ⟨36, _⟩ => ⟨S16x1, .f32⟩
  | .hbm, ⟨37, _⟩ => ⟨S16x1, .f32⟩
  | .hbm, ⟨38, _⟩ => ⟨S16x1, .f32⟩
  | .hbm, ⟨39, _⟩ => ⟨S16x1, .f32⟩
  | .hbm, ⟨40, _⟩ => ⟨S16x1, .f32⟩
  | .hbm, ⟨41, _⟩ => ⟨S16x1, .f32⟩
  | .hbm, ⟨42, _⟩ => ⟨S16x1, .f32⟩
  | .hbm, ⟨43, _⟩ => ⟨S_, .f32⟩
  | .hbm, ⟨44, _⟩ => ⟨S16x1, .f32⟩
  | .hbm, ⟨45, _⟩ => ⟨S16x1, .f32⟩
  | .hbm, ⟨46, _⟩ => ⟨S16384x1024, .f32⟩
  | .hbm, ⟨47, _⟩ => ⟨S16x1024, .f32⟩
  | .hbm, ⟨48, _⟩ => ⟨S_, .f32⟩
  | .hbm, ⟨49, _⟩ => ⟨S16, .f32⟩
  | .hbm, ⟨50, _⟩ => ⟨S16x1, .f32⟩
  | .hbm, ⟨51, _⟩ => ⟨S16x1, .f32⟩
  | .hbm, ⟨52, _⟩ => ⟨S_, .f32⟩
  | .hbm, ⟨53, _⟩ => ⟨S16x1, .f32⟩
  | .hbm, ⟨54, _⟩ => ⟨S16x1, .f32⟩
  | .hbm, ⟨55, _⟩ => ⟨S16x1024, .f32⟩
  | .hbm, ⟨56, _⟩ => ⟨S16x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S1024x16384, .f32⟩
  | .hbm, ⟨68, _⟩ => ⟨S16x16384, .f32⟩
  | .hbm, ⟨69, _⟩ => ⟨S16x16384, .f32⟩
  | .hbm, ⟨70, _⟩ => ⟨S16x16384, .f32⟩
  | .hbm, ⟨71, _⟩ => ⟨S_, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S16x1, .f32⟩
  | .hbm, ⟨77, _⟩ => ⟨S16x16384, .f32⟩
  | .hbm, ⟨78, _⟩ => ⟨S16x16384, .f32⟩
  | .hbm, ⟨79, _⟩ => ⟨S16x16384, .f32⟩
  | .hbm, ⟨80, _⟩ => ⟨S_, .f32⟩
  | .hbm, ⟨81, _⟩ => ⟨S16, .f32⟩
  | .hbm, ⟨82, _⟩ => ⟨S16x1, .f32⟩
  | .hbm, ⟨83, _⟩ => ⟨S16x16384, .f32⟩
  | .hbm, ⟨84, _⟩ => ⟨S16x16384, .f32⟩
  | .hbm, ⟨85, _⟩ => ⟨S16x16384, .f32⟩
  | .hbm, ⟨86, _⟩ => ⟨S16x16384, .f32⟩
  | .hbm, ⟨87, _⟩ => ⟨S_, .f32⟩
  | .hbm, ⟨88, _⟩ => ⟨S16, .f32⟩
  | .hbm, ⟨89, _⟩ => ⟨S16x1, .f32⟩
  | .hbm, ⟨90, _⟩ => ⟨S16x16384, .f32⟩
  | .hbm, ⟨91, _⟩ => ⟨S16x16384, .f32⟩
  | .hbm, ⟨92, _⟩ => ⟨S16x1024, .f32⟩
  | _, _ => ⟨S16x16x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_call2_v0 : Ref sig .tc := ⟨.hbm, 47, rfl⟩
abbrev main_call2_cst : Ref sig .tc := ⟨.hbm, 48, rfl⟩
abbrev main_call2_v1 : Ref sig .tc := ⟨.hbm, 49, rfl⟩
abbrev main_call2_v2 : Ref sig .tc := ⟨.hbm, 50, rfl⟩
abbrev main_v14 : Ref sig .tc := ⟨.hbm, 51, rfl⟩
abbrev main_cst_0 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_call3_v0 : Ref sig .tc := ⟨.hbm, 57, rfl⟩
abbrev main_call3_cst : Ref sig .tc := ⟨.hbm, 58, rfl⟩
abbrev main_call3_v1 : Ref sig .tc := ⟨.hbm, 59, rfl⟩
abbrev main_call3_v2 : Ref sig .tc := ⟨.hbm, 60, rfl⟩
abbrev main_v19 : Ref sig .tc := ⟨.hbm, 61, rfl⟩
abbrev main_cst_1 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_cst_2 : Ref sig .tc := ⟨.hbm, 71, rfl⟩
abbrev main_v28 : Ref sig .tc := ⟨.hbm, 72, rfl⟩
abbrev main_cst_3 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_4 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_cst_5 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩

abbrev nD : Nat := 1
abbrev τ : Topo := Topo.v7x

variable {F : FTy → Type} [FloatOps F]
-- ==== ReferenceExactIdeal.lean ====
abbrev S16x16x8x8 : Shape := ⟨4, ![16, 16, 8, 8]⟩
abbrev S16384x16x8x8 : Shape := ⟨4, ![16384, 16, 8, 8]⟩
abbrev S1024x1 : Shape := ⟨2, ![1024, 1]⟩
abbrev S1 : Shape := ⟨1, ![1]⟩
abbrev S16x1024 : Shape := ⟨2, ![16, 1024]⟩
abbrev S16x1 : Shape := ⟨2, ![16, 1]⟩
abbrev S1x1 : Shape := ⟨2, ![1, 1]⟩
abbrev S_ : Shape := ⟨0, ![]⟩
abbrev S16384x1024 : Shape := ⟨2, ![16384, 1024]⟩
abbrev S16 : Shape := ⟨1, ![16]⟩
abbrev S16384 : Shape := ⟨1, ![16384]⟩
abbrev S16384x1 : Shape := ⟨2, ![16384, 1]⟩
abbrev S1024x16384 : Shape := ⟨2, ![1024, 16384]⟩
abbrev S16x16384 : Shape := ⟨2, ![16, 16384]⟩

abbrev nBuf : Space → Nat
  | .hbm => 96
  | .vmem => 0
  | .smem => 0
  | _ => 0

abbrev bufTy : (tb : Table) → Fin (tcTables nBuf tb) → BufTy
  | .hbm, ⟨0, _⟩ => ⟨S16x16x8x8, .f32⟩
  | .hbm, ⟨1, _⟩ => ⟨S16384x16x8x8, .f32⟩
  | .hbm, ⟨2, _⟩ => ⟨S1024x1, .f32⟩
  | .hbm, ⟨3, _⟩ => ⟨S1, .f32⟩
  | .hbm, ⟨4, _⟩ => ⟨S1024x1, .f32⟩
  | .hbm, ⟨5, _⟩ => ⟨S1, .f32⟩
  | .hbm, ⟨6, _⟩ => ⟨S16x1024, .f32⟩
  | .hbm, ⟨7, _⟩ => ⟨S16x1, .f32⟩
  | .hbm, ⟨8, _⟩ => ⟨S1x1, .f32⟩
  | .hbm, ⟨9, _⟩ => ⟨S16x1, .f32⟩
  | .hbm, ⟨10, _⟩ => ⟨S16x1, .f32⟩
  | .hbm, ⟨11, _⟩ => ⟨S_, .f32⟩
  | .hbm, ⟨12, _⟩ => ⟨S16x1, .f32⟩
  | .hbm, ⟨13, _⟩ => ⟨S16x1, .f32⟩
  | .hbm, ⟨14, _⟩ => ⟨S16x1, .f32⟩
  | .hbm, ⟨15, _⟩ => ⟨S16x1, .f32⟩
  | .hbm, ⟨16, _⟩ => ⟨S16x1, .i1⟩
  | .hbm, ⟨17, _⟩ => ⟨S16x1, .f32⟩
  | .hbm, ⟨18, _⟩ => ⟨S16x1, .f32⟩
  | .hbm, ⟨19, _⟩ => ⟨S16x1, .f32⟩
  | .hbm, ⟨20, _⟩ => ⟨S16x1, .f32⟩
  | .hbm, ⟨21, _⟩ => ⟨S16x1, .f32⟩
  | .hbm, ⟨22, _⟩ => ⟨S16x1, .f32⟩
  | .hbm, ⟨23, _⟩ => ⟨S16x1, .f32⟩
  | .hbm, ⟨24, _⟩ => ⟨S16x1, .f32⟩
  | .hbm, ⟨25, _⟩ => ⟨S16x1, .f32⟩
  | .hbm, ⟨26, _⟩ => ⟨S1x1, .f32⟩
  | .hbm, ⟨27, _⟩ => ⟨S16x1, .f32⟩
  | .hbm, ⟨28, _⟩ => ⟨S16x1, .f32⟩
  | .hbm, ⟨29, _⟩ => ⟨S_, .f32⟩
  | .hbm, ⟨30, _⟩ => ⟨S16x1, .f32⟩
  | .hbm, ⟨31, _⟩ => ⟨S16x1, .f32⟩
  | .hbm, ⟨32, _⟩ => ⟨S16x1, .f32⟩
  | .hbm, ⟨33, _⟩ => ⟨S16x1, .f32⟩
  | .hbm, ⟨34, _⟩ => ⟨S16x1, .i1⟩
  | .hbm, ⟨35, _⟩ => ⟨S16x1, .f32⟩
  | .hbm, ⟨36, _⟩ => ⟨S16x1, .f32⟩
  | .hbm, ⟨37, _⟩ => ⟨S16x1, .f32⟩
  | .hbm, ⟨38, _⟩ => ⟨S16x1, .f32⟩
  | .hbm, ⟨39, _⟩ => ⟨S16x1, .f32⟩
  | .hbm, ⟨40, _⟩ => ⟨S16x1, .f32⟩
  | .hbm, ⟨41, _⟩ => ⟨S16x1, .f32⟩
  | .hbm, ⟨42, _⟩ => ⟨S16x1, .f32⟩
  | .hbm, ⟨43, _⟩ => ⟨S_, .f32⟩
  | .hbm, ⟨44, _⟩ => ⟨S16x1, .f32⟩
  | .hbm, ⟨45, _⟩ => ⟨S16x1, .f32⟩
  | .hbm, ⟨46, _⟩ => ⟨S16384x1024, .f32⟩
  | .hbm, ⟨47, _⟩ => ⟨S16x1024, .f32⟩
  | .hbm, ⟨48, _⟩ => ⟨S_, .f32⟩
  | .hbm, ⟨49, _⟩ => ⟨S16, .f32⟩
  | .hbm, ⟨50, _⟩ => ⟨S16x1, .f32⟩
  | .hbm, ⟨51, _⟩ => ⟨S16x1, .f32⟩
  | .hbm, ⟨52, _⟩ => ⟨S_, .f32⟩
  | .hbm, ⟨53, _⟩ => ⟨S16x1, .f32⟩
  | .hbm, ⟨54, _⟩ => ⟨S16x1, .f32⟩
  | .hbm, ⟨55, _⟩ => ⟨S16x1024, .f32⟩
  | .hbm, ⟨56, _⟩ => ⟨S16x1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S1024x16384, .f32⟩
  | .hbm, ⟨68, _⟩ => ⟨S16x16384, .f32⟩
  | .hbm, ⟨69, _⟩ => ⟨S16x16384, .f32⟩
  | .hbm, ⟨70, _⟩ => ⟨S16x16384, .f32⟩
  | .hbm, ⟨71, _⟩ => ⟨S_, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S16x1, .f32⟩
  | .hbm, ⟨77, _⟩ => ⟨S16x16384, .f32⟩
  | .hbm, ⟨78, _⟩ => ⟨S16x16384, .f32⟩
  | .hbm, ⟨79, _⟩ => ⟨S16x16384, .f32⟩
  | .hbm, ⟨80, _⟩ => ⟨S_, .f32⟩
  | .hbm, ⟨81, _⟩ => ⟨S16, .f32⟩
  | .hbm, ⟨82, _⟩ => ⟨S16x1, .f32⟩
  | .hbm, ⟨83, _⟩ => ⟨S16x16384, .f32⟩
  | .hbm, ⟨84, _⟩ => ⟨S16x16384, .f32⟩
  | .hbm, ⟨85, _⟩ => ⟨S_, .f32⟩
  | .hbm, ⟨86, _⟩ => ⟨S16x16384, .f32⟩
  | .hbm, ⟨87, _⟩ => ⟨S16x16384, .f32⟩
  | .hbm, ⟨88, _⟩ => ⟨S16x16384, .f32⟩
  | .hbm, ⟨89, _⟩ => ⟨S16x16384, .f32⟩
  | .hbm, ⟨90, _⟩ => ⟨S_, .f32⟩
  | .hbm, ⟨91, _⟩ => ⟨S16, .f32⟩
  | .hbm, ⟨92, _⟩ => ⟨S16x1, .f32⟩
  | .hbm, ⟨93, _⟩ => ⟨S16x16384, .f32⟩
  | .hbm, ⟨94, _⟩ => ⟨S16x16384, .f32⟩
  | .hbm, ⟨95, _⟩ => ⟨S16x1024, .f32⟩
  | _, _ => ⟨S16x16x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_call1_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_v10 : Ref sig .tc := ⟨.hbm, 42, rfl⟩
abbrev main_cst : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_call2_v0 : Ref sig .tc := ⟨.hbm, 47, rfl⟩
abbrev main_call2_cst : Ref sig .tc := ⟨.hbm, 48, rfl⟩
abbrev main_call2_v1 : Ref sig .tc := ⟨.hbm, 49, rfl⟩
abbrev main_call2_v2 : Ref sig .tc := ⟨.hbm, 50, rfl⟩
abbrev main_v14 : Ref sig .tc := ⟨.hbm, 51, rfl⟩
abbrev main_cst_0 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_call3_v0 : Ref sig .tc := ⟨.hbm, 57, rfl⟩
abbrev main_call3_cst : Ref sig .tc := ⟨.hbm, 58, rfl⟩
abbrev main_call3_v1 : Ref sig .tc := ⟨.hbm, 59, rfl⟩
abbrev main_call3_v2 : Ref sig .tc := ⟨.hbm, 60, rfl⟩
abbrev main_v19 : Ref sig .tc := ⟨.hbm, 61, rfl⟩
abbrev main_cst_1 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_cst_2 : Ref sig .tc := ⟨.hbm, 71, rfl⟩
abbrev main_v28 : Ref sig .tc := ⟨.hbm, 72, rfl⟩
abbrev main_cst_3 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_cst_4 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_cst_5 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_cst_6 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩

abbrev nD : Nat := 1
abbrev τ : Topo := Topo.v7x

variable {F : FTy → Type} [FloatOps F]
-- ==== Proof.Steps.lean ====
/-
  WHAT ONE GRID POINT LEAVES. The kernel keeps four buffers from point to point: the weighted sums, the sum of the weights,
  the running maximum and the transposed embedding. The first point resets them, every point folds in one block of 4096
  slots, and the last point stores the quotient.
-/
module

public import proofs.«01_k».proof.Proof.Gen.KernelIdeal.Value
public import Idealize.ShloMosaic.Lib.Tactic

@[expose] public section

set_option maxRecDepth 16384

noncomputable section

namespace Cert.Attend

open Idealize.ShloMosaic Idealize.ShloMosaic.TcCoe
open Cert.KernelIdeal Cert.KernelIdeal.Gen

variable {F : FTy → Type} [FloatOps F]

theorem hz : (![0, 0] : Fin 2 → Nat) = fun _ => 0 := funext fun a => by fin_cases a <;> rfl

/-- The scale of the logits from the transposed embedding `e` and the two heads' parameters. -/
def temper (e : Vec F S1024x16 .f32) (x1 : Vec F S1x1024 .f32) (x2 : Vec F S1x1 .f32) (x3 : Vec F S1x1024 .f32) (x4 : Vec F S1x1 .f32) : FVec F S1x16 .f32 :=
  k0_pay9 e x1 x2 x3 x4

/-- The maximum after a block `x`, from the maximum `μ` before it. -/
def newMax (e : Vec F S1024x16 .f32) (T : FVec F S1x16 .f32) (x : Vec F S1024x4096 .f32) (μ : Vec F S16x1 .f32) : Vec F S16x1 .f32 :=
  k0_pay3 (k0_pay13 e T (k0_pay10 e) x μ)

/-- The sum of the weights after a block. -/
def newSum (e : Vec F S1024x16 .f32) (T : FVec F S1x16 .f32) (x : Vec F S1024x4096 .f32) (z μ : Vec F S16x1 .f32) : Vec F S16x1 .f32 :=
  k0_pay1 (k0_pay16 e T (k0_pay10 e) x μ z)

/-- The weighted sums after a block. -/
def newAcc (e : Vec F S1024x16 .f32) (T : FVec F S1x16 .f32) (x : Vec F S1024x4096 .f32) (A : Vec F S16x1024 .f32) (μ : Vec F S16x1 .f32) : Vec F S16x1024 .f32 :=
  k0_pay2 (k0_pay11 x) (k0_pay14 e T (k0_pay10 e) x μ) (k0_pay15 e T (k0_pay10 e) x μ) A

/-- The first point folds its block into the weighted sums. -/
theorem acc_A (c : Dev nD) (i : grid0.Coords) (arg1 : Memref sig .tc .vmem S1024x16 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x4096 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S1024x16 .f32) (harg11 : arg11.IsWhole) (hc0 : cond0_0 i) (hc1 : ¬cond0_1 i)
    (x0 : Vec F S1024x16 .f32) (x1 : Vec F S1x1024 .f32) (x2 : Vec F S1x1 .f32) (x3 : Vec F S1x1024 .f32) (x4 : Vec F S1x1 .f32) (x5 : Vec F S1024x4096 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 = newAcc (k0_pay8 x0) (temper (k0_pay8 x0) x1 x2 x3 x4) x5 k0_pay5 k0_pay7 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S16x1024) hz]
  simp only [View.readCov_unit_zero (S := S1024x16) _ hz, View.readCov_unit_zero (S := S16x1024) _ hz, View.readCov_unit_zero (S := S16x1) _ hz]
  simp only [View.readAt_eq_ld, harg1.read_unread, harg2.read_unread, harg3.read_unread, harg4.read_unread, harg5.read_unread, harg6.read_unread, harg8.read_unread, harg9.read_unread, harg10.read_unread, harg11.read_unread, View.ld_unit_zero (S := S1024x16) hz, View.ld_unit_zero (S := S1x1024) hz, View.ld_unit_zero (S := S1x1) hz, View.ld_unit_zero (S := S1024x4096) hz, View.ld_unit_zero (S := S16x1024) hz, View.ld_unit_zero (S := S16x1) hz, shapeCast_self]
  rfl

/-- The first point folds its block into the sum of the weights. -/
theorem sum_A (c : Dev nD) (i : grid0.Coords) (arg1 : Memref sig .tc .vmem S1024x16 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x4096 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S1024x16 .f32) (harg11 : arg11.IsWhole) (hc0 : cond0_0 i) (hc1 : ¬cond0_1 i)
    (x0 : Vec F S1024x16 .f32) (x1 : Vec F S1x1024 .f32) (x2 : Vec F S1x1 .f32) (x3 : Vec F S1x1024 .f32) (x4 : Vec F S1x1 .f32) (x5 : Vec F S1024x4096 .f32) :
    sout0_A_1 c i arg1 harg1 arg2 harg2 arg3 harg3 arg4 harg4 arg5 harg5 arg6 harg6 arg7 harg7 arg8 harg8 arg9 harg9 arg10 harg10 arg11 harg11 hc0 hc1 x0 x1 x2 x3 x4 x5 = newSum (k0_pay8 x0) (temper (k0_pay8 x0) x1 x2 x3 x4) x5 k0_pay6 k0_pay7 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S16x1) hz]
  simp only [View.readCov_unit_zero (S := S1024x16) _ hz, View.readCov_unit_zero (S := S16x1024) _ hz, View.readCov_unit_zero (S := S16x1) _ hz]
  simp only [View.readAt_eq_ld, harg1.read_unread, harg2.read_unread, harg3.read_unread, harg4.read_unread, harg5.read_unread, harg6.read_unread, harg8.read_unread, harg9.read_unread, harg10.read_unread, harg11.read_unread, View.ld_unit_zero (S := S1024x16) hz, View.ld_unit_zero (S := S1x1024) hz, View.ld_unit_zero (S := S1x1) hz, View.ld_unit_zero (S := S1024x4096) hz, View.ld_unit_zero (S := S16x1024) hz, View.ld_unit_zero (S := S16x1) hz, shapeCast_self]
  rfl

/-- The first point folds its block into the maximum. -/
theorem max_A (c : Dev nD) (i : grid0.Coords) (arg1 : Memref sig .tc .vmem S1024x16 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x4096 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S1024x16 .f32) (harg11 : arg11.IsWhole) (hc0 : cond0_0 i) (hc1 : ¬cond0_1 i)
    (x0 : Vec F S1024x16 .f32) (x1 : Vec F S1x1024 .f32) (x2 : Vec F S1x1 .f32) (x3 : Vec F S1x1024 .f32) (x4 : Vec F S1x1 .f32) (x5 : Vec F S1024x4096 .f32) :
    sout0_A_2 c i arg1 harg1 arg2 harg2 arg3 harg3 arg4 harg4 arg5 harg5 arg6 harg6 arg7 harg7 arg8 harg8 arg9 harg9 arg10 harg10 arg11 harg11 hc0 hc1 x0 x1 x2 x3 x4 x5 = newMax (k0_pay8 x0) (temper (k0_pay8 x0) x1 x2 x3 x4) x5 k0_pay7 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_cons_unit_zero (S := S16x1) hz]
  simp only [View.readCov_unit_zero (S := S1024x16) _ hz, View.readCov_unit_zero (S := S16x1024) _ hz, View.readCov_unit_zero (S := S16x1) _ hz]
  simp only [View.readAt_eq_ld, harg1.read_unread, harg2.read_unread, harg3.read_unread, harg4.read_unread, harg5.read_unread, harg6.read_unread, harg8.read_unread, harg9.read_unread, harg10.read_unread, harg11.read_unread, View.ld_unit_zero (S := S1024x16) hz, View.ld_unit_zero (S := S1x1024) hz, View.ld_unit_zero (S := S1x1) hz, View.ld_unit_zero (S := S1024x4096) hz, View.ld_unit_zero (S := S16x1024) hz, View.ld_unit_zero (S := S16x1) hz, shapeCast_self]
  rfl

/-- The first point copies the transposed embedding. -/
theorem emb_A (c : Dev nD) (i : grid0.Coords) (arg1 : Memref sig .tc .vmem S1024x16 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x4096 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S1024x16 .f32) (harg11 : arg11.IsWhole) (hc0 : cond0_0 i) (hc1 : ¬cond0_1 i)
    (x0 : Vec F S1024x16 .f32) (x1 : Vec F S1x1024 .f32) (x2 : Vec F S1x1 .f32) (x3 : Vec F S1x1024 .f32) (x4 : Vec F S1x1 .f32) (x5 : Vec F S1024x4096 .f32) :
    sout0_A_3 c i arg1 harg1 arg2 harg2 arg3 harg3 arg4 harg4 arg5 harg5 arg6 harg6 arg7 harg7 arg8 harg8 arg9 harg9 arg10 harg10 arg11 harg11 hc0 hc1 x0 x1 x2 x3 x4 x5 = k0_pay8 x0 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 hc0 hc1 x0 x1 x2 x3 x4 x5)]
  unfold kernelRun0_A
  dsimp only
  sl_unfold_words
  rw [View.canon_unit_zero (S := S1024x16) hz]
  simp only [View.readAt_eq_ld, harg1.read_unread, harg2.read_unread, harg3.read_unread, harg4.read_unread, harg5.read_unread, harg6.read_unread, harg8.read_unread, harg9.read_unread, harg10.read_unread, harg11.read_unread, View.ld_unit_zero (S := S1024x16) hz, View.ld_unit_zero (S := S1x1024) hz, View.ld_unit_zero (S := S1x1) hz, View.ld_unit_zero (S := S1024x4096) hz, View.ld_unit_zero (S := S16x1024) hz, View.ld_unit_zero (S := S16x1) hz, shapeCast_self]

/-- A middle point folds its block into the weighted sums. -/
theorem acc_B (c : Dev nD) (i : grid0.Coords) (arg1 : Memref sig .tc .vmem S1024x16 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x4096 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S1024x16 .f32) (harg11 : arg11.IsWhole) (hc0 : ¬cond0_0 i) (hc1 : ¬cond0_1 i)
    (x0 : Vec F S1024x16 .f32) (x1 : Vec F S1x1024 .f32) (x2 : Vec F S1x1 .f32) (x3 : Vec F S1x1024 .f32) (x4 : Vec F S1x1 .f32) (x5 : Vec F S1024x4096 .f32) (xs0 : Vec F S16x1024 .f32) (xs1 : Vec F S16x1 .f32) (xs2 : Vec F S16x1 .f32) (xs3 : Vec F S1024x16 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3 = newAcc xs3 (temper xs3 x1 x2 x3 x4) x5 xs0 xs2 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3)]
  unfold kernelRun0_B
  dsimp only
  sl_unfold_words
  rw [View.canon_unit_zero (S := S16x1024) hz]
  simp only [View.readAt_eq_ld, harg1.read_unread, harg2.read_unread, harg3.read_unread, harg4.read_unread, harg5.read_unread, harg6.read_unread, harg8.read_unread, harg9.read_unread, harg10.read_unread, harg11.read_unread, View.ld_unit_zero (S := S1024x16) hz, View.ld_unit_zero (S := S1x1024) hz, View.ld_unit_zero (S := S1x1) hz, View.ld_unit_zero (S := S1024x4096) hz, View.ld_unit_zero (S := S16x1024) hz, View.ld_unit_zero (S := S16x1) hz, shapeCast_self]
  rfl

/-- A middle point folds its block into the sum of the weights. -/
theorem sum_B (c : Dev nD) (i : grid0.Coords) (arg1 : Memref sig .tc .vmem S1024x16 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x4096 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S1024x16 .f32) (harg11 : arg11.IsWhole) (hc0 : ¬cond0_0 i) (hc1 : ¬cond0_1 i)
    (x0 : Vec F S1024x16 .f32) (x1 : Vec F S1x1024 .f32) (x2 : Vec F S1x1 .f32) (x3 : Vec F S1x1024 .f32) (x4 : Vec F S1x1 .f32) (x5 : Vec F S1024x4096 .f32) (xs0 : Vec F S16x1024 .f32) (xs1 : Vec F S16x1 .f32) (xs2 : Vec F S16x1 .f32) (xs3 : Vec F S1024x16 .f32) :
    sout0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3 = newSum xs3 (temper xs3 x1 x2 x3 x4) x5 xs1 xs2 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3)]
  unfold kernelRun0_B
  dsimp only
  sl_unfold_words
  rw [View.canon_unit_zero (S := S16x1) hz]
  simp only [View.readAt_eq_ld, harg1.read_unread, harg2.read_unread, harg3.read_unread, harg4.read_unread, harg5.read_unread, harg6.read_unread, harg8.read_unread, harg9.read_unread, harg10.read_unread, harg11.read_unread, View.ld_unit_zero (S := S1024x16) hz, View.ld_unit_zero (S := S1x1024) hz, View.ld_unit_zero (S := S1x1) hz, View.ld_unit_zero (S := S1024x4096) hz, View.ld_unit_zero (S := S16x1024) hz, View.ld_unit_zero (S := S16x1) hz, shapeCast_self]
  rfl

/-- A middle point folds its block into the maximum. -/
theorem max_B (c : Dev nD) (i : grid0.Coords) (arg1 : Memref sig .tc .vmem S1024x16 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x4096 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S1024x16 .f32) (harg11 : arg11.IsWhole) (hc0 : ¬cond0_0 i) (hc1 : ¬cond0_1 i)
    (x0 : Vec F S1024x16 .f32) (x1 : Vec F S1x1024 .f32) (x2 : Vec F S1x1 .f32) (x3 : Vec F S1x1024 .f32) (x4 : Vec F S1x1 .f32) (x5 : Vec F S1024x4096 .f32) (xs0 : Vec F S16x1024 .f32) (xs1 : Vec F S16x1 .f32) (xs2 : Vec F S16x1 .f32) (xs3 : Vec F S1024x16 .f32) :
    sout0_B_2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3 = newMax xs3 (temper xs3 x1 x2 x3 x4) x5 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3)]
  unfold kernelRun0_B
  dsimp only
  sl_unfold_words
  rw [View.canon_unit_zero (S := S16x1) hz]
  simp only [View.readAt_eq_ld, harg1.read_unread, harg2.read_unread, harg3.read_unread, harg4.read_unread, harg5.read_unread, harg6.read_unread, harg8.read_unread, harg9.read_unread, harg10.read_unread, harg11.read_unread, View.ld_unit_zero (S := S1024x16) hz, View.ld_unit_zero (S := S1x1024) hz, View.ld_unit_zero (S := S1x1) hz, View.ld_unit_zero (S := S1024x4096) hz, View.ld_unit_zero (S := S16x1024) hz, View.ld_unit_zero (S := S16x1) hz, shapeCast_self]
  rfl

/-- The last point folds its block into the weighted sums. -/
theorem acc_C (c : Dev nD) (i : grid0.Coords) (arg1 : Memref sig .tc .vmem S1024x16 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x4096 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S1024x16 .f32) (harg11 : arg11.IsWhole) (hc0 : ¬cond0_0 i) (hc1 : cond0_1 i)
    (x0 : Vec F S1024x16 .f32) (x1 : Vec F S1x1024 .f32) (x2 : Vec F S1x1 .f32) (x3 : Vec F S1x1024 .f32) (x4 : Vec F S1x1 .f32) (x5 : Vec F S1024x4096 .f32) (xs0 : Vec F S16x1024 .f32) (xs1 : Vec F S16x1 .f32) (xs2 : Vec F S16x1 .f32) (xs3 : Vec F S1024x16 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3 = newAcc xs3 (temper xs3 x1 x2 x3 x4) x5 xs0 xs2 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3)]
  unfold kernelRun0_C
  dsimp only
  sl_unfold_words
  rw [View.canon_unit_zero (S := S16x1024) hz]
  simp only [View.readAt_eq_ld, harg1.read_unread, harg2.read_unread, harg3.read_unread, harg4.read_unread, harg5.read_unread, harg6.read_unread, harg8.read_unread, harg9.read_unread, harg10.read_unread, harg11.read_unread, View.ld_unit_zero (S := S1024x16) hz, View.ld_unit_zero (S := S1x1024) hz, View.ld_unit_zero (S := S1x1) hz, View.ld_unit_zero (S := S1024x4096) hz, View.ld_unit_zero (S := S16x1024) hz, View.ld_unit_zero (S := S16x1) hz, shapeCast_self]
  rfl

/-- The last point folds its block into the sum of the weights. -/
theorem sum_C (c : Dev nD) (i : grid0.Coords) (arg1 : Memref sig .tc .vmem S1024x16 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x4096 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S1024x16 .f32) (harg11 : arg11.IsWhole) (hc0 : ¬cond0_0 i) (hc1 : cond0_1 i)
    (x0 : Vec F S1024x16 .f32) (x1 : Vec F S1x1024 .f32) (x2 : Vec F S1x1 .f32) (x3 : Vec F S1x1024 .f32) (x4 : Vec F S1x1 .f32) (x5 : Vec F S1024x4096 .f32) (xs0 : Vec F S16x1024 .f32) (xs1 : Vec F S16x1 .f32) (xs2 : Vec F S16x1 .f32) (xs3 : Vec F S1024x16 .f32) :
    sout0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3 = newSum xs3 (temper xs3 x1 x2 x3 x4) x5 xs1 xs2 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3)]
  unfold kernelRun0_C
  dsimp only
  sl_unfold_words
  rw [View.canon_unit_zero (S := S16x1) hz]
  simp only [View.readAt_eq_ld, harg1.read_unread, harg2.read_unread, harg3.read_unread, harg4.read_unread, harg5.read_unread, harg6.read_unread, harg8.read_unread, harg9.read_unread, harg10.read_unread, harg11.read_unread, View.ld_unit_zero (S := S1024x16) hz, View.ld_unit_zero (S := S1x1024) hz, View.ld_unit_zero (S := S1x1) hz, View.ld_unit_zero (S := S1024x4096) hz, View.ld_unit_zero (S := S16x1024) hz, View.ld_unit_zero (S := S16x1) hz, shapeCast_self]
  rfl

/-- The last point folds its block into the maximum. -/
theorem max_C (c : Dev nD) (i : grid0.Coords) (arg1 : Memref sig .tc .vmem S1024x16 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x4096 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S1024x16 .f32) (harg11 : arg11.IsWhole) (hc0 : ¬cond0_0 i) (hc1 : cond0_1 i)
    (x0 : Vec F S1024x16 .f32) (x1 : Vec F S1x1024 .f32) (x2 : Vec F S1x1 .f32) (x3 : Vec F S1x1024 .f32) (x4 : Vec F S1x1 .f32) (x5 : Vec F S1024x4096 .f32) (xs0 : Vec F S16x1024 .f32) (xs1 : Vec F S16x1 .f32) (xs2 : Vec F S16x1 .f32) (xs3 : Vec F S1024x16 .f32) :
    sout0_C_2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3 = newMax xs3 (temper xs3 x1 x2 x3 x4) x5 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3)]
  unfold kernelRun0_C
  dsimp only
  sl_unfold_words
  rw [View.canon_unit_zero (S := S16x1) hz]
  simp only [View.readAt_eq_ld, harg1.read_unread, harg2.read_unread, harg3.read_unread, harg4.read_unread, harg5.read_unread, harg6.read_unread, harg8.read_unread, harg9.read_unread, harg10.read_unread, harg11.read_unread, View.ld_unit_zero (S := S1024x16) hz, View.ld_unit_zero (S := S1x1024) hz, View.ld_unit_zero (S := S1x1) hz, View.ld_unit_zero (S := S1024x4096) hz, View.ld_unit_zero (S := S16x1024) hz, View.ld_unit_zero (S := S16x1) hz, shapeCast_self]
  rfl

/-- The last point stores the weighted sums over the sum of the weights. -/
theorem out_C (c : Dev nD) (i : grid0.Coords) (arg1 : Memref sig .tc .vmem S1024x16 .f32) (harg1 : arg1.IsWhole) (arg2 : Memref sig .tc .vmem S1x1024 .f32) (harg2 : arg2.IsWhole) (arg3 : Memref sig .tc .vmem S1x1 .f32) (harg3 : arg3.IsWhole) (arg4 : Memref sig .tc .vmem S1x1024 .f32) (harg4 : arg4.IsWhole) (arg5 : Memref sig .tc .vmem S1x1 .f32) (harg5 : arg5.IsWhole) (arg6 : Memref sig .tc .vmem S1024x4096 .f32) (harg6 : arg6.IsWhole) (arg7 : Memref sig .tc .vmem S16x1024 .f32) (harg7 : arg7.IsWhole) (arg8 : Memref sig .tc .vmem S16x1024 .f32) (harg8 : arg8.IsWhole) (arg9 : Memref sig .tc .vmem S16x1 .f32) (harg9 : arg9.IsWhole) (arg10 : Memref sig .tc .vmem S16x1 .f32) (harg10 : arg10.IsWhole) (arg11 : Memref sig .tc .vmem S1024x16 .f32) (harg11 : arg11.IsWhole) (hc0 : ¬cond0_0 i) (hc1 : cond0_1 i)
    (x0 : Vec F S1024x16 .f32) (x1 : Vec F S1x1024 .f32) (x2 : Vec F S1x1 .f32) (x3 : Vec F S1x1024 .f32) (x4 : Vec F S1x1 .f32) (x5 : Vec F S1024x4096 .f32) (xs0 : Vec F S16x1024 .f32) (xs1 : Vec F S16x1 .f32) (xs2 : Vec F S16x1 .f32) (xs3 : Vec F S1024x16 .f32) :
    out0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3 = k0_pay4 (newAcc xs3 (temper xs3 x1 x2 x3 x4) x5 xs0 xs2) (newSum xs3 (temper xs3 x1 x2 x3 x4) x5 xs1 xs2) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 hc0 hc1 x0 x1 x2 x3 x4 x5 xs0 xs1 xs2 xs3)]
  unfold kernelRun0_C
  dsimp only
  sl_unfold_words
  rw [View.canon_unit_zero (S := S16x1024) hz]
  simp only [View.readCov_unit_zero (S := S1024x16) _ hz, View.readCov_unit_zero (S := S16x1024) _ hz, View.readCov_unit_zero (S := S16x1) _ hz]
  simp only [View.readAt_eq_ld, harg1.read_unread, harg2.read_unread, harg3.read_unread, harg4.read_unread, harg5.read_unread, harg6.read_unread, harg8.read_unread, harg9.read_unread, harg10.read_unread, harg11.read_unread, View.ld_unit_zero (S := S1024x16) hz, View.ld_unit_zero (S := S1x1024) hz, View.ld_unit_zero (S := S1x1) hz, View.ld_unit_zero (S := S1024x4096) hz, View.ld_unit_zero (S := S16x1024) hz, View.ld_unit_zero (S := S16x1) hz, shapeCast_self]
  rfl

end Cert.Attend

end
-- ==== Proof.Sums.lean ====
/-
  SUMS OF EXTENDED REALS WITH REAL WEIGHTS. A weight here is a nonnegative real (an exponential, or a quotient of two); the
  value it weighs may be infinite. Over the extended reals multiplication does not distribute over addition in general, but by
  a nonnegative real it does, which is all that a weighted sum needs.
-/
module

public import Idealize.ShloMosaic.PureOps.Ideal
public import Idealize.ShloMosaic.PureOps.IdealRules
public import Idealize.ShloMosaic.Lib.Pointwise

@[expose] public section

noncomputable section

namespace Cert.Attend

open Idealize.ShloMosaic

/-- The sum of real terms, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real distributes over a sum from the right. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- Two real weights one after the other are their product. -/
theorem coe_mul_mul_coe (a b : ℝ) (x : EReal) : (a : EReal) * x * (b : EReal) = ((a * b : ℝ) : EReal) * x := by
  rw [EReal.coe_mul, mul_right_comm]

/-- The larger of two reals, read as an extended real. -/
theorem coe_max (a b : ℝ) : ((max a b : ℝ) : EReal) = max (a : EReal) (b : EReal) :=
  EReal.coe_strictMono.monotone.map_max

/-- The largest of finitely many real entries, taken from minus infinity, is a real once there is one entry. -/
theorem fold_max_coe {K : ℕ} [NeZero K] (l : Fin K → ℝ) :
    ∃ M : ℝ, (Finset.univ : Finset (Fin K)).fold max (⊥ : EReal) (fun k => (l k : EReal)) = (M : EReal) := by
  classical
  have key : ∀ s : Finset (Fin K), s.Nonempty → ∃ M : ℝ, s.fold max (⊥ : EReal) (fun k => (l k : EReal)) = (M : EReal) := by
    intro s hs
    induction hs using Finset.Nonempty.cons_induction with
    | singleton a => exact ⟨l a, by rw [Finset.fold_singleton, max_eq_left bot_le]⟩
    | cons a s ha _ ih =>
      obtain ⟨M, hM⟩ := ih
      exact ⟨max (l a) M, by rw [Finset.fold_cons, hM, coe_max]⟩
  exact key _ ⟨0, Finset.mem_univ _⟩

/-- The exponential of a difference of reals. -/
theorem exp_sub_coe (a b : ℝ) : Ideal.exp ((a : EReal) - (b : EReal)) = ((Real.exp (a - b) : ℝ) : EReal) := by
  rw [← EReal.coe_sub, Ideal.exp_coe]

end Cert.Attend

end
-- ==== Proof.Logits.lean ====
/-
  THE LOGITS. The two heads are softplus of a linear form; the similarity of an embedding and a memory slot is their inner
  product over their two norms, each norm with `1e-8` added. The embedding and the heads' weights are real and the
  heads' constants are not `∞`; a slot may hold infinities, and its similarity is then zero, in whichever order the norms are divided out. So the logits are real, and the
  two spellings of them (norms divided out first, or last) agree.
-/
module

public import proofs.«01_k».proof.Proof.Sums

@[expose] public section

noncomputable section

namespace Cert.Attend

open Idealize.ShloMosaic

/-- `softplus x`, as `max x 0 + log (1 + exp (- |x|))`. -/
def softplus (x : EReal) : EReal := max x 0 + Ideal.log1p (Ideal.exp (-(max x (-x))))

/-- Of a real it is a real. -/
theorem softplus_coe (x : ℝ) : ∃ r : ℝ, softplus (x : EReal) = (r : EReal) := by
  have h : ¬1 + Real.exp (-(max x (-x))) ≤ 0 := not_le.mpr (by positivity)
  refine ⟨max x 0 + Real.log (1 + Real.exp (-(max x (-x)))), ?_⟩
  unfold softplus Ideal.log1p
  rw [← EReal.coe_neg, ← coe_max, ← EReal.coe_neg, Ideal.exp_coe, ← EReal.coe_one, ← EReal.coe_add, Ideal.log_coe, if_neg h,
    ← EReal.coe_zero, ← coe_max, ← EReal.coe_add]

/-- A linear form in reals with a real constant. -/
def linear {D : ℕ} (e w : Fin D → EReal) (b : EReal) : EReal := (∑ d, e d * w d) + b

theorem linear_coe {D : ℕ} (e w : Fin D → ℝ) (b : ℝ) :
    ∃ r : ℝ, linear (fun d => (e d : EReal)) (fun d => (w d : EReal)) (b : EReal) = (r : EReal) := by
  refine ⟨(∑ d, e d * w d) + b, ?_⟩
  unfold linear
  rw [EReal.coe_add, coe_sum]
  simp only [EReal.coe_mul]

/-- Softplus of `-∞` is zero. -/
theorem softplus_bot : softplus ⊥ = 0 := by
  have h : Ideal.log 1 = 0 := by
    rw [← EReal.coe_one, Ideal.log_coe, if_neg (by norm_num), Real.log_one, EReal.coe_zero]
  have he : Ideal.exp ⊥ = 0 := rfl
  unfold softplus Ideal.log1p
  rw [EReal.neg_bot, max_eq_right bot_le, max_eq_right bot_le, EReal.neg_top, he, add_zero, h, add_zero]

/-- Softplus of a linear form in reals is a real, if the constant is a real or `-∞`. -/
theorem softplus_linear {D : ℕ} (e w : Fin D → ℝ) {b : EReal} (hb : b < ⊤) :
    ∃ r : ℝ, softplus (linear (fun d => (e d : EReal)) (fun d => (w d : EReal)) b) = (r : EReal) := by
  induction b with
  | top => exact absurd hb (lt_irrefl _)
  | bot => exact ⟨0, by unfold linear; rw [EReal.add_bot, softplus_bot, EReal.coe_zero]⟩
  | coe b =>
    obtain ⟨a, ha⟩ := linear_coe e w b
    rw [ha]
    exact softplus_coe a

/-- The number added to a norm: the float nearest `1e-8`. -/
def eps : EReal := Ideal.ofBits .f32 0x322BCC77#32

/-- It is a positive real. -/
theorem eps_coe : ∃ r : ℝ, 0 < r ∧ eps = (r : EReal) := by
  refine ⟨_, ?_, by simp [eps, Ideal.ofBits, Ideal.ieee, -EReal.coe_mul]; rfl⟩
  norm_num

/-- The Euclidean norm plus `eps`. -/
def norm {D : ℕ} (x : Fin D → EReal) : EReal := Ideal.sqrt (∑ d, x d * x d) + eps

/-- Of real entries it is a positive real. -/
theorem norm_coe {D : ℕ} (x : Fin D → ℝ) : ∃ r : ℝ, 0 < r ∧ norm (fun d => (x d : EReal)) = (r : EReal) := by
  obtain ⟨ε, hε, he⟩ := eps_coe
  have h0 : 0 ≤ ∑ d, x d * x d := Finset.sum_nonneg fun d _ => mul_self_nonneg _
  refine ⟨Real.sqrt (∑ d, x d * x d) + ε, add_pos_of_nonneg_of_pos (Real.sqrt_nonneg _) hε, ?_⟩
  unfold norm
  rw [he, EReal.coe_add]
  simp only [← EReal.coe_mul]
  rw [← coe_sum, Ideal.sqrt_coe, if_neg (not_lt.mpr h0)]

/-- The square of an extended real is not negative. -/
theorem zero_le_mul_self (x : EReal) : 0 ≤ x * x := by
  rcases le_total 0 x with h | h
  · exact EReal.mul_nonneg h h
  · have := EReal.mul_nonneg (EReal.neg_nonneg.mpr h) (EReal.neg_nonneg.mpr h)
    rwa [EReal.neg_mul, mul_comm, EReal.neg_mul, neg_neg] at this

/-- With an infinite entry the norm is infinite. -/
theorem norm_top {D : ℕ} (x : Fin D → EReal) (d : Fin D) (h : x d = ⊤ ∨ x d = ⊥) : norm x = ⊤ := by
  obtain ⟨ε, _, he⟩ := eps_coe
  have hs : ∑ d, x d * x d = ⊤ := by
    refine top_le_iff.mp (le_trans (le_of_eq ?_) (Finset.single_le_sum (f := fun d => x d * x d)
      (fun i _ => zero_le_mul_self (x i)) (Finset.mem_univ d)))
    rcases h with h | h <;> simp [h]
  unfold norm
  rw [hs, Ideal.sqrt_top, he, EReal.top_add_coe]

/-- Anything over infinity is zero. -/
theorem div_top (x : EReal) : Ideal.div x ⊤ = 0 := by
  unfold Ideal.div
  rw [if_neg EReal.top_ne_zero, EReal.inv_top, mul_zero]

/-- THE SIMILARITY `σ` of a real embedding `e` and a slot `x`: a real, whether each factor is divided by its norm before the
    product or the product is divided by the slot's norm and `norm e` is left for later. -/
theorem similarity {D : ℕ} (e : Fin D → ℝ) (x : Fin D → EReal) :
    ∃ ν σ : ℝ, ν ≠ 0 ∧ norm (fun d => (e d : EReal)) = (ν : EReal)
      ∧ ∑ d, Ideal.div (e d : EReal) (norm fun d => (e d : EReal)) * Ideal.div (x d) (norm x) = (σ : EReal)
      ∧ (∑ d, (e d : EReal) * x d) * Ideal.div 1 (norm x) = ((σ * ν : ℝ) : EReal) := by
  obtain ⟨ν, hν, he⟩ := norm_coe e
  by_cases hx : ∃ d, x d = ⊤ ∨ x d = ⊥
  · obtain ⟨d, hd⟩ := hx
    refine ⟨ν, 0, hν.ne', he, ?_, ?_⟩ <;> rw [norm_top x d hd] <;> simp [div_top]
  · have hr : ∀ d, x d = ((x d).toReal : EReal) := fun d =>
      (EReal.coe_toReal (fun h => hx ⟨d, .inl h⟩) fun h => hx ⟨d, .inr h⟩).symm
    obtain ⟨y, rfl⟩ : ∃ y : Fin D → ℝ, x = fun d => (y d : EReal) := ⟨fun d => (x d).toReal, funext hr⟩
    obtain ⟨κ, hκ, hk⟩ := norm_coe y
    refine ⟨ν, ∑ d, (e d * (1 / ν)) * (y d * (1 / κ)), hν.ne', he, ?_, ?_⟩
    · rw [he, hk, coe_sum]
      simp only [Ideal.div_coe hν.ne', Ideal.div_coe hκ.ne', ← EReal.coe_mul]
    · rw [hk, Ideal.div_coe hκ.ne', one_mul]
      simp only [← EReal.coe_mul]
      rw [← coe_sum, ← EReal.coe_mul, Finset.sum_mul, Finset.sum_mul]
      refine congrArg _ (Finset.sum_congr rfl fun d _ => ?_)
      field_simp

/-- THE LOGITS of an embedding `e` with real weights of the heads and constants below `∞`: with `t` the strength and `s` the sharpening there are reals `l n`
    such that the reference's logit `t * similarity` is `l n` and the kernel's, `(t * s / norm e) * (product / norm x)`, is
    `s * l n`. -/
theorem logits {D N : ℕ} (e w w' : Fin D → ℝ) {b b' : EReal} (hb : b < ⊤) (hb' : b' < ⊤)
    (x : Fin N → Fin D → EReal) {t s : EReal}
    (ht : t = softplus (linear (fun d => (e d : EReal)) (fun d => (w d : EReal)) b))
    (hs : s = 1 + softplus (linear (fun d => (e d : EReal)) (fun d => (w' d : EReal)) b')) :
    ∃ (σ : ℝ) (l : Fin N → ℝ), s = (σ : EReal)
      ∧ (∀ n, t * ∑ d, Ideal.div (e d : EReal) (norm fun d => (e d : EReal)) * Ideal.div (x n d) (norm (x n)) = (l n : EReal))
      ∧ ∀ n, Ideal.div (t * s) (norm fun d => (e d : EReal)) * ((∑ d, (e d : EReal) * x n d) * Ideal.div 1 (norm (x n)))
          = ((σ * l n : ℝ) : EReal) := by
  obtain ⟨τ, hτ⟩ := softplus_linear e w hb
  obtain ⟨τ', hτ'⟩ := softplus_linear e w' hb'
  rw [hτ] at ht
  rw [hτ', ← EReal.coe_one, ← EReal.coe_add] at hs
  subst ht hs
  choose ν ρ hν hn h1 h2 using fun n => similarity e (x n)
  refine ⟨1 + τ', fun n => τ * ρ n, rfl, fun n => by rw [h1, EReal.coe_mul], fun n => ?_⟩
  rw [h2, hn n, Ideal.div_coe (hν n), ← EReal.coe_mul, ← EReal.coe_mul, ← EReal.coe_mul]
  congr 1
  have := hν n
  field_simp

end Cert.Attend

end
-- ==== Proof.Flat.lean ====
/-
  A ROW-MAJOR VIEW of an `[N, 16, 8, 8]` array: `N` vectors of 1024 entries.
-/
module

public import proofs.«01_k».proof.Proof.Logits
public import Idealize.ShloMosaic.Lib.Pointwise

@[expose] public section

noncomputable section

namespace Cert.Attend

open Idealize.ShloMosaic

/-- Entry `d` of vector `i`. -/
def flat {N : ℕ} (a : FVec Ideal ⟨4, ![N, 16, 8, 8]⟩ .f32) (i : Fin N) (d : Fin 1024) : EReal :=
  a (ix4 i ⟨d / 64, by omega⟩ ⟨d / 8 % 8, by omega⟩ ⟨d % 8, by omega⟩)

/-- The word of `-∞`. -/
theorem bot_word : Ideal.ofBits .f32 0xFF800000#32 = ⊥ := by simp [Ideal.ofBits, Ideal.ieee]

section Definitions

variable (E : FVec Ideal ⟨4, ![16, 16, 8, 8]⟩ .f32) (M : FVec Ideal ⟨4, ![16384, 16, 8, 8]⟩ .f32)
  (W W' : FVec Ideal ⟨2, ![1024, 1]⟩ .f32) (B B' : FVec Ideal ⟨1, ![1]⟩ .f32)

/-- The strength of row `b`. -/
def strength (b : Fin 16) : EReal := softplus (linear (flat E b) (fun d => W (ix2 d 0)) (B (ix1 0)))

/-- The sharpening of row `b`. -/
def sharpness (b : Fin 16) : EReal := 1 + softplus (linear (flat E b) (fun d => W' (ix2 d 0)) (B' (ix1 0)))

/-- The reference's logit of row `b` and slot `n`: the strength times the inner product of the normalised vectors. -/
def refLogit (b : Fin 16) (n : Fin 16384) : EReal :=
  strength E W B b * ∑ d, Ideal.div (flat E b d) (norm (flat E b)) * Ideal.div (flat M n d) (norm (flat M n))

/-- Its maximum. -/
def refMax (b : Fin 16) : EReal := max ⊥ (Finset.univ.fold max ⊥ (refLogit E M W B b))

/-- The exponential of the shifted logit. -/
def refExp (b : Fin 16) (n : Fin 16384) : EReal := Ideal.exp (refLogit E M W B b n - refMax E M W B b)

/-- The softmax weight raised to the sharpening. -/
def refPow (b : Fin 16) (n : Fin 16384) : EReal :=
  Ideal.pow (Ideal.div (refExp E M W B b n) (∑ i, refExp E M W B b i)) (sharpness E W' B' b)

/-- The reference's entry: the slots averaged by the renormalised powers. -/
def refRead (b : Fin 16) (d : Fin 1024) : EReal :=
  ∑ n, Ideal.div (refPow E M W W' B B' b n) (∑ i, refPow E M W W' B B' b i) * flat M n d

end Definitions

end Cert.Attend

end
-- ==== Proof.Point.lean ====
/-
  ONE BLOCK, ENTRY BY ENTRY, over the extended reals: the scale of the logits, the logits, and what the block adds to the
  running maximum, the sum of the weights and the weighted sums.
-/
module

public import proofs.«01_k».proof.Proof.Steps
public import proofs.«01_k».proof.Proof.Flat

@[expose] public section

set_option maxRecDepth 16384

noncomputable section

namespace Cert.Attend

open Idealize.ShloMosaic Idealize.ShloMosaic.TcCoe
open Cert.KernelIdeal Cert.KernelIdeal.Gen

variable (e : FVec Ideal S1024x16 .f32) (x1 : FVec Ideal S1x1024 .f32) (x2 : FVec Ideal S1x1 .f32)
  (x3 : FVec Ideal S1x1024 .f32) (x4 : FVec Ideal S1x1 .f32) (T : FVec Ideal S1x16 .f32)
  (x : FVec Ideal S1024x4096 .f32) (A : FVec Ideal S16x1024 .f32) (z μ : FVec Ideal S16x1 .f32)

/-- The running maximum starts at a real, `-1e30` rounded. -/
theorem low_word : ∃ r : ℝ, Ideal.ofBits .f32 0xF149F2CA#32 = (r : EReal) :=
  ⟨_, by simp [Ideal.ofBits, Ideal.ieee, -EReal.coe_mul]; rfl⟩

/-- The diagonal keeps its entry. -/
theorem diagonal_eq (b : Fin 16) (v : EReal) :
    Scalar.select (IntOp.cmpi .eq (BitVec.ofNat 32 b) (BitVec.ofNat 32 b)) v 0 = v := by
  simp [Scalar.select, IntOp.cmpi]

/-- Off the diagonal the entry is zero. -/
theorem diagonal_ne {b j : Fin 16} (h : b ≠ j) (v : EReal) :
    Scalar.select (IntOp.cmpi .eq (BitVec.ofNat 32 b) (BitVec.ofNat 32 j)) v 0 = 0 := by
  have h' : ¬BitVec.ofNat 32 (b : ℕ) = BitVec.ofNat 32 (j : ℕ) := fun hh => h (Fin.ext (by
    have := congrArg BitVec.toNat hh
    simp only [BitVec.toNat_ofNat] at this
    omega))
  simp [Scalar.select, IntOp.cmpi, beq_eq_false_iff_ne.mpr h']

/-- The scale of row `b`: strength times sharpening. -/
theorem temper_apply (b : Fin 16) : temper (F := Ideal) e x1 x2 x3 x4 (ix2 0 b)
    = softplus (linear (fun d => e (ix2 d b)) (fun d => x1 (ix2 0 d)) (x2 (ix2 0 0)))
      * (1 + softplus (linear (fun d => e (ix2 d b)) (fun d => x3 (ix2 0 d)) (x4 (ix2 0 0)))) := by
  pointwise [temper, k0_pay9]
  simp only [softplus, linear, Ideal.absf_def, zero_sub, mul_comm (x1 _), mul_comm (x3 _)]

/-- The logit of row `b` and slot `n` of the block. -/
theorem logit_apply (b : Fin 16) (n : Fin 4096) : k0_pay12 e T (k0_pay10 e) x (ix2 b n)
    = Ideal.div (T (ix2 0 b)) (norm fun d => e (ix2 d b))
      * ((∑ d, e (ix2 d b) * x (ix2 d n)) * Ideal.div 1 (norm fun d => x (ix2 d n))) := by
  pointwise [k0_pay12, k0_pay10, k0_pay11]
  rw [Finset.sum_eq_single b (fun j _ h => diagonal_ne h.symm _) fun h => absurd (Finset.mem_univ b) h, diagonal_eq]
  rfl

/-- The new maximum. -/
theorem newMax_apply (b : Fin 16) : newMax e T x μ (ix2 b 0)
    = max (μ (ix2 b 0)) (Finset.univ.fold max ⊥ fun n => k0_pay12 e T (k0_pay10 e) x (ix2 b n)) := by
  pointwise [newMax, k0_pay3, k0_pay13]
  rw [bot_word]

/-- The new sum of the weights. -/
theorem newSum_apply (b : Fin 16) : newSum e T x z μ (ix2 b 0)
    = z (ix2 b 0) * Ideal.exp (μ (ix2 b 0) - newMax e T x μ (ix2 b 0))
      + ∑ n, Ideal.exp (k0_pay12 e T (k0_pay10 e) x (ix2 b n) - newMax e T x μ (ix2 b 0)) := by
  pointwise [newSum, newMax, k0_pay1, k0_pay3, k0_pay16, k0_pay14, k0_pay15]

/-- The new weighted sums. -/
theorem newAcc_apply (b : Fin 16) (d : Fin 1024) : newAcc e T x A μ (ix2 b d)
    = A (ix2 b d) * Ideal.exp (μ (ix2 b 0) - newMax e T x μ (ix2 b 0))
      + ∑ n, Ideal.exp (k0_pay12 e T (k0_pay10 e) x (ix2 b n) - newMax e T x μ (ix2 b 0)) * x (ix2 d n) := by
  pointwise [newAcc, newMax, k0_pay2, k0_pay3, k0_pay11, k0_pay14, k0_pay15]

/-- The quotient. -/
theorem quotient_apply (b : Fin 16) (d : Fin 1024) :
    k0_pay4 (F := Ideal) A z (ix2 b d) = Ideal.div (A (ix2 b d)) (z (ix2 b 0)) := by
  pointwise [k0_pay4]

/-- The initial values. -/
theorem init_acc (b : Fin 16) (d : Fin 1024) : k0_pay5 (F := Ideal) (ix2 b d) = 0 := by
  pointwise [k0_pay5]

theorem init_sum (b : Fin 16) : k0_pay6 (F := Ideal) (ix2 b 0) = 0 := by
  pointwise [k0_pay6]

theorem init_max : ∃ r : ℝ, ∀ b : Fin 16, k0_pay7 (F := Ideal) (ix2 b 0) = (r : EReal) := by
  obtain ⟨r, hr⟩ := low_word
  refine ⟨r, fun b => ?_⟩
  pointwise [k0_pay7]
  exact hr

end Cert.Attend

end
-- ==== Proof.Blocks.lean ====
/-
  WHAT THE KERNEL READS. Each of the region's input arrays is a layout of one argument: the embedding and the memory with their
  1024 features first, the two heads' weights as rows. A point's block of the memory is its 4096 slots.
-/
module

public import proofs.«01_k».proof.Proof.Point

@[expose] public section

set_option maxRecDepth 16384

noncomputable section

namespace Cert.Attend

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The arguments. -/
abbrev argE : FVec Ideal S16x16x8x8 .f32 := m ((c.tc : Thread nD τ).loc main_arg0)
abbrev argM : FVec Ideal S16384x16x8x8 .f32 := m ((c.tc : Thread nD τ).loc main_arg1)
abbrev argW : FVec Ideal S1024x1 .f32 := m ((c.tc : Thread nD τ).loc main_arg2)
abbrev argB : FVec Ideal S1 .f32 := m ((c.tc : Thread nD τ).loc main_arg3)
abbrev argW' : FVec Ideal S1024x1 .f32 := m ((c.tc : Thread nD τ).loc main_arg4)
abbrev argB' : FVec Ideal S1 .f32 := m ((c.tc : Thread nD τ).loc main_arg5)

theorem V1 : V m c main_call0_v1 = shapeCast S1024x16 (transpose S16x8x8x16 [0, 2, 3, 1] (argE m c)
    transposes_S16x16x8x8_S16x8x8x16_0_2_3_1) shapeCasts_S16x8x8x16_S1024x16 := by
  unfold V hostOps0
  after_results
  rfl

theorem V3 : V m c main_call0_v3 = shapeCast S1024x16384 (transpose S16x8x8x16384 [1, 2, 3, 0] (argM m c)
    transposes_S16384x16x8x8_S16x8x8x16384_1_2_3_0) shapeCasts_S16x8x8x16384_S1024x16384 := by
  unfold V hostOps0
  after_results
  rfl

theorem V4 : V m c main_call0_v4 = shapeCast S1x1024 (argW m c) shapeCasts_S1024x1_S1x1024 := by
  unfold V hostOps0
  after_results
  rfl
theorem V5 : V m c main_call0_v5 = shapeCast S1x1024 (argW' m c) shapeCasts_S1024x1_S1x1024 := by
  unfold V hostOps0
  after_results
  rfl
theorem V6 : V m c main_call0_v6 = shapeCast S1x1 (argB m c) shapeCasts_S1_S1x1 := by
  unfold V hostOps0
  after_results
  rfl
theorem V7 : V m c main_call0_v7 = shapeCast S1x1 (argB' m c) shapeCasts_S1_S1x1 := by
  unfold V hostOps0
  after_results
  rfl

theorem iblk0_apply (t : Fin cfg0.N) (r : Fin 1024) (b : Fin 16) :
    iblk m c 0 t (ix2 r b) = argE m c (ix4 ⟨r / 64, by omega⟩ b ⟨r / 8 % 8, by omega⟩ ⟨r % 8, by omega⟩) := by
  have hi : win0_0.index t 0 = 0 ∧ win0_0.index t 1 = 0 := by
    rcases fin_N0 t with rfl | rfl | rfl | rfl <;> decide
  have he : ((cfg0.win 0).blk t).view.emb (ix2 r b) = ix2 r b := by
    funext a; apply Fin.ext
    match a with
    | ⟨0, _⟩ => show win0_0.index t 0 * 1024 + 1 * r.val = r.val; omega
    | ⟨1, _⟩ => show win0_0.index t 1 * 16 + 1 * b.val = b.val; omega
  show V m c main_call0_v1 (((cfg0.win 0).blk t).view.emb (ix2 r b)) = _
  rw [he, V1]
  pointwise []

/-- A point's transposed embedding. -/
theorem emb_apply (t : Fin cfg0.N) (d : Fin 1024) (b : Fin 16) :
    k0_pay8 (F := Ideal) (iblk m c 0 t) (ix2 d b) = flat (argE m c) b d := by
  have h0 : (⟨((⟨b * 64 + d % 64, by omega⟩ : Fin 1024) : ℕ) / 64, by omega⟩ : Fin 16) = b := Fin.ext (by dsimp only; omega)
  have h2 : (⟨((⟨b * 64 + d % 64, by omega⟩ : Fin 1024) : ℕ) / 8 % 8, by omega⟩ : Fin 8) = ⟨d / 8 % 8, by omega⟩ :=
    Fin.ext (by dsimp only; omega)
  have h3 : (⟨((⟨b * 64 + d % 64, by omega⟩ : Fin 1024) : ℕ) % 8, by omega⟩ : Fin 8) = ⟨d % 8, by omega⟩ :=
    Fin.ext (by dsimp only; omega)
  pointwise [k0_pay8]
  rw [iblk0_apply, h0, h2, h3]
  rfl

/-- A point's weights of the strength. -/
theorem iblk1_apply (t : Fin cfg0.N) (d : Fin 1024) : iblk m c 1 t (ix2 0 d) = argW m c (ix2 d 0) := by
  have hi : win0_1.index t 0 = 0 ∧ win0_1.index t 1 = 0 := by
    rcases fin_N0 t with rfl | rfl | rfl | rfl <;> decide
  have he : ((cfg0.win 1).blk t).view.emb (ix2 0 d) = ix2 0 d := by
    funext a; apply Fin.ext
    match a with
    | ⟨0, _⟩ => show win0_1.index t 0 * 1 + 1 * 0 = 0; omega
    | ⟨1, _⟩ => show win0_1.index t 1 * 1024 + 1 * d.val = d.val; omega
  show V m c main_call0_v4 (((cfg0.win 1).blk t).view.emb (ix2 0 d)) = _
  rw [he, V4]
  pointwise []

/-- A point's weights of the sharpening. -/
theorem iblk3_apply (t : Fin cfg0.N) (d : Fin 1024) : iblk m c 3 t (ix2 0 d) = argW' m c (ix2 d 0) := by
  have hi : win0_3.index t 0 = 0 ∧ win0_3.index t 1 = 0 := by
    rcases fin_N0 t with rfl | rfl | rfl | rfl <;> decide
  have he : ((cfg0.win 3).blk t).view.emb (ix2 0 d) = ix2 0 d := by
    funext a; apply Fin.ext
    match a with
    | ⟨0, _⟩ => show win0_3.index t 0 * 1 + 1 * 0 = 0; omega
    | ⟨1, _⟩ => show win0_3.index t 1 * 1024 + 1 * d.val = d.val; omega
  show V m c main_call0_v5 (((cfg0.win 3).blk t).view.emb (ix2 0 d)) = _
  rw [he, V5]
  pointwise []

/-- A point's constant of the strength. -/
theorem iblk2_apply (t : Fin cfg0.N) : iblk m c 2 t (ix2 0 0) = argB m c (ix1 0) := by
  have hi : win0_2.index t 0 = 0 ∧ win0_2.index t 1 = 0 := by
    rcases fin_N0 t with rfl | rfl | rfl | rfl <;> decide
  have he : ((cfg0.win 2).blk t).view.emb (ix2 0 0) = ix2 0 0 := by
    funext a; apply Fin.ext
    match a with
    | ⟨0, _⟩ => show win0_2.index t 0 * 1 + 1 * 0 = 0; omega
    | ⟨1, _⟩ => show win0_2.index t 1 * 1 + 1 * 0 = 0; omega
  show V m c main_call0_v6 (((cfg0.win 2).blk t).view.emb (ix2 0 0)) = _
  rw [he, V6]
  pointwise []

/-- A point's constant of the sharpening. -/
theorem iblk4_apply (t : Fin cfg0.N) : iblk m c 4 t (ix2 0 0) = argB' m c (ix1 0) := by
  have hi : win0_4.index t 0 = 0 ∧ win0_4.index t 1 = 0 := by
    rcases fin_N0 t with rfl | rfl | rfl | rfl <;> decide
  have he : ((cfg0.win 4).blk t).view.emb (ix2 0 0) = ix2 0 0 := by
    funext a; apply Fin.ext
    match a with
    | ⟨0, _⟩ => show win0_4.index t 0 * 1 + 1 * 0 = 0; omega
    | ⟨1, _⟩ => show win0_4.index t 1 * 1 + 1 * 0 = 0; omega
  show V m c main_call0_v7 (((cfg0.win 4).blk t).view.emb (ix2 0 0)) = _
  rw [he, V7]
  pointwise []

/-- A point's block of the memory: slots `4096 t` and on. -/
theorem iblk5_apply (t : Fin cfg0.N) (d : Fin 1024) (n : Fin 4096) (N : Fin 16384) (hN : N.val = t.val * 4096 + n.val) :
    iblk m c 5 t (ix2 d n) = flat (argM m c) N d := by
  have hi : win0_5.index t 0 = 0 ∧ win0_5.index t 1 = t.val := by
    rcases fin_N0 t with rfl | rfl | rfl | rfl <;> decide
  have he : ((cfg0.win 5).blk t).view.emb (ix2 d n) = ix2 d N := by
    funext a; apply Fin.ext
    match a with
    | ⟨0, _⟩ => show win0_5.index t 0 * 1024 + 1 * d.val = d.val; omega
    | ⟨1, _⟩ => show win0_5.index t 1 * 4096 + 1 * n.val = N.val; omega
  show V m c main_call0_v3 (((cfg0.win 5).blk t).view.emb (ix2 d n)) = _
  rw [he, V3]
  pointwise []
  rfl

end Cert.Attend

end
-- ==== Proof.Online.lean ====
/-
  THE ONLINE SOFTMAX. The slots come in blocks. Beside the running maximum two running sums are kept, that of the weights
  and, per column, that of the weighted entries; each block's weights are taken relative to the maximum so far, and what was
  summed before is rescaled to it. After every block the sums are those of ALL the slots seen so far, relative to the
  current maximum (`Seen`); their quotient is therefore the softmax average, whatever the maxima were.
-/
module

public import proofs.«01_k».proof.Proof.Sums

@[expose] public section

noncomputable section

namespace Cert.Attend

open Idealize.ShloMosaic

variable {D : Type} {K : ℕ}

/-- What the three running quantities hold after `t` blocks with logits `L u k` and entries `X d u k` (block `u`, slot `k`,
    column `d`): some real `μ`, the sum of the weights `exp (L u k - μ)` and, per column, the sum of the weighted entries. -/
def Seen (L : ℕ → Fin K → ℝ) (X : D → ℕ → Fin K → EReal) (t : ℕ) (mx z : EReal) (A : D → EReal) : Prop :=
  ∃ μ : ℝ, mx = (μ : EReal) ∧ z = ((∑ u ∈ Finset.range t, ∑ k, Real.exp (L u k - μ) : ℝ) : EReal)
    ∧ ∀ d, A d = ∑ u ∈ Finset.range t, ∑ k, ((Real.exp (L u k - μ) : ℝ) : EReal) * X d u k

/-- Before the first block both sums are zero and the maximum is any real. -/
theorem Seen.zero (L : ℕ → Fin K → ℝ) (X : D → ℕ → Fin K → EReal) (μ : ℝ) : Seen L X 0 (μ : EReal) 0 fun _ => 0 :=
  ⟨μ, rfl, by simp, fun d => by simp⟩

/-- One more block keeps the sums right: the old sums rescaled by `exp (old maximum - new maximum)`, plus the block's. -/
theorem Seen.step [NeZero K] {L : ℕ → Fin K → ℝ} {X : D → ℕ → Fin K → EReal} {t : ℕ} {mx z : EReal} {A : D → EReal}
    (h : Seen L X t mx z A) {l : Fin K → EReal} (hl : ∀ k, l k = (L t k : EReal)) {x : D → Fin K → EReal}
    (hx : ∀ d k, x d k = X d t k) {mx' : EReal} (hm : mx' = max mx (Finset.univ.fold max ⊥ l)) :
    Seen L X (t + 1) mx' (z * Ideal.exp (mx - mx') + ∑ k, Ideal.exp (l k - mx'))
      (fun d => A d * Ideal.exp (mx - mx') + ∑ k, Ideal.exp (l k - mx') * x d k) := by
  obtain ⟨μ, rfl, rfl, hA⟩ := h
  obtain rfl : l = fun k => (L t k : EReal) := funext hl
  obtain ⟨M, hM⟩ := fold_max_coe (L t)
  rw [hM] at hm
  obtain rfl : mx' = ((max μ M : ℝ) : EReal) := hm.trans (coe_max _ _).symm
  generalize max μ M = ν
  have hs : ∀ u k, Real.exp (L u k - μ) * Real.exp (μ - ν) = Real.exp (L u k - ν) := fun u k => by
    rw [← Real.exp_add]; congr 1; ring
  refine ⟨ν, rfl, ?_, fun d => ?_⟩
  · simp only [exp_sub_coe]
    rw [← coe_sum, ← EReal.coe_mul, ← EReal.coe_add, Finset.sum_range_succ, Finset.sum_mul]
    simp only [Finset.sum_mul, hs]
  · simp only [exp_sub_coe, hA, hx]
    rw [Finset.sum_range_succ, sum_mul_coe _ _ (Real.exp_pos _).le]
    congr 1
    refine Finset.sum_congr rfl fun u _ => ?_
    rw [sum_mul_coe _ _ (Real.exp_pos _).le]
    exact Finset.sum_congr rfl fun k _ => by rw [coe_mul_mul_coe, hs]

/-- The softmax weight of slot `k` of block `u` among `T` blocks. -/
def weight (L : ℕ → Fin K → ℝ) (T u : ℕ) (k : Fin K) : ℝ :=
  Real.exp (L u k) / ∑ v ∈ Finset.range T, ∑ j, Real.exp (L v j)

/-- The quotient of the two sums after the last block is the softmax average of the entries. -/
theorem Seen.quotient [NeZero K] {L : ℕ → Fin K → ℝ} {X : D → ℕ → Fin K → EReal} {T : ℕ} (hT : 0 < T) {mx z : EReal}
    {A : D → EReal} (h : Seen L X T mx z A) (d : D) :
    Ideal.div (A d) z = ∑ u ∈ Finset.range T, ∑ k, ((weight L T u k : ℝ) : EReal) * X d u k := by
  obtain ⟨μ, rfl, rfl, hA⟩ := h
  have hpos : 0 < ∑ u ∈ Finset.range T, ∑ k, Real.exp (L u k - μ) :=
    Finset.sum_pos (fun u _ => Finset.sum_pos (fun k _ => Real.exp_pos _) ⟨0, Finset.mem_univ _⟩) ⟨0, Finset.mem_range.mpr hT⟩
  have hw : ∀ u k, Real.exp (L u k - μ) * (1 / ∑ v ∈ Finset.range T, ∑ j, Real.exp (L v j - μ)) = weight L T u k := by
    intro u k
    have hμ : ∀ v j, Real.exp (L v j - μ) = Real.exp (L v j) * Real.exp (-μ) := fun v j => by
      rw [← Real.exp_add, sub_eq_add_neg]
    simp only [weight, hμ, ← Finset.sum_mul]
    rw [mul_one_div, mul_div_mul_right _ _ (Real.exp_pos _).ne']
  rw [Ideal.div_coe hpos.ne', hA, sum_mul_coe _ _ (one_div_pos.mpr hpos).le]
  refine Finset.sum_congr rfl fun u _ => ?_
  rw [sum_mul_coe _ _ (one_div_pos.mpr hpos).le]
  exact Finset.sum_congr rfl fun k _ => by rw [coe_mul_mul_coe, hw]

end Cert.Attend

end
-- ==== Proof.Fold.lean ====
/-
  THE FOLD OVER THE GRID. After `t` points the kept buffers hold, for each row, the sums of the online softmax over the first
  `4096 t` slots (`Seen`); so the result is the softmax average of all the slots, by the kernel's logits.
-/
module

public import proofs.«01_k».proof.Proof.Blocks
public import proofs.«01_k».proof.Proof.Online

@[expose] public section

set_option maxRecDepth 16384

noncomputable section

namespace Cert.Attend

open Idealize.ShloMosaic Idealize.ShloMosaic.TcCoe Idealize.SL.Sem
open Cert.KernelIdeal Cert.KernelIdeal.Gen Cert.KernelIdeal.Value

/-- Slot `k` of block `u`. -/
def slotAt (u : ℕ) (k : Fin 4096) : Fin 16384 := ⟨(u * 4096 + k) % 16384, Nat.mod_lt _ (by decide)⟩

/-- A sum over all the slots, block by block. -/
theorem sum_slots {M : Type*} [AddCommMonoid M] (f : Fin 16384 → M) :
    ∑ n, f n = ∑ u ∈ Finset.range 4, ∑ k, f (slotAt u k) := by
  rw [Finset.sum_range, Fin.sum_univ_tiles 4 4096 rfl]
  refine Finset.sum_congr rfl fun u _ => Finset.sum_congr rfl fun k _ => congrArg f (Fin.ext ?_)
  have hu := u.isLt
  have hk := k.isLt
  exact (Nat.mod_eq_of_lt (by omega)).symm

variable (m : (ℓ : Loc nD τ sig) → Buf (Elt Ideal) ℓ) (c : Dev nD) (L : Fin 16 → Fin 16384 → ℝ)

/-- The kernel's logit of row `b` and slot `n`: strength times sharpening over the embedding's norm, times the inner product
    over the slot's norm. -/
def kerLogit (b : Fin 16) (n : Fin 16384) : EReal :=
  Ideal.div (strength (argE m c) (argW m c) (argB m c) b * sharpness (argE m c) (argW' m c) (argB' m c) b) (norm (flat (argE m c) b))
    * ((∑ d, flat (argE m c) b d * flat (argM m c) n d) * Ideal.div 1 (norm (flat (argM m c) n)))

/-- Weighted sums `A`, sum of the weights `z` and maximum `μ` are those of the first `t` blocks, for logits `L`. -/
def Good (t : ℕ) (A : FVec Ideal S16x1024 .f32) (z μ : FVec Ideal S16x1 .f32) : Prop :=
  ∀ b : Fin 16, Seen (fun u k => L b (slotAt u k)) (fun (d : Fin 1024) u k => flat (argM m c) (slotAt u k) d) t
    (μ (ix2 b 0)) (z (ix2 b 0)) fun d => A (ix2 b d)

/-- A transposed embedding. -/
def Transposed (e : FVec Ideal S1024x16 .f32) : Prop := ∀ (d : Fin 1024) (b : Fin 16), e (ix2 d b) = flat (argE m c) b d

/-- The scale at point `t`. -/
abbrev scale (e : FVec Ideal S1024x16 .f32) (t : Fin cfg0.N) : FVec Ideal S1x16 .f32 :=
  temper (F := Ideal) e (iblk m c 1 t) (iblk m c 2 t) (iblk m c 3 t) (iblk m c 4 t)

variable {m c L}

/-- A block's logits are the kernel's logits of its slots. -/
theorem block_logit {e : FVec Ideal S1024x16 .f32} (he : Transposed m c e) (t : Fin cfg0.N) (b : Fin 16) (k : Fin 4096) :
    k0_pay12 (F := Ideal) e (scale m c e t) (k0_pay10 e) (iblk m c 5 t) (ix2 b k) = kerLogit m c b (slotAt t.val k) := by
  have ht : t.val < 4 := lt_of_lt_of_eq t.isLt N_0
  have hn : (slotAt t.val k).val = t.val * 4096 + k.val := Nat.mod_eq_of_lt (by omega)
  rw [logit_apply]
  unfold scale
  rw [temper_apply, iblk2_apply, iblk4_apply]
  simp only [he _ _, iblk1_apply, iblk3_apply, iblk5_apply m c t _ k _ hn]
  rfl

/-- One more block. -/
theorem Good.step (hL : ∀ b n, kerLogit m c b n = (L b n : EReal)) {e : FVec Ideal S1024x16 .f32} (he : Transposed m c e)
    (t : Fin cfg0.N) {A : FVec Ideal S16x1024 .f32} {z μ : FVec Ideal S16x1 .f32} (h : Good m c L t.val A z μ) :
    Good m c L (t.val + 1) (newAcc (F := Ideal) e (scale m c e t) (iblk m c 5 t) A μ)
      (newSum (F := Ideal) e (scale m c e t) (iblk m c 5 t) z μ) (newMax (F := Ideal) e (scale m c e t) (iblk m c 5 t) μ) := by
  intro b
  have ht : t.val < 4 := lt_of_lt_of_eq t.isLt N_0
  have h' := (h b).step (fun k => (block_logit he t b k).trans (hL b (slotAt t.val k)))
    (fun d k => iblk5_apply m c t d k (slotAt t.val k) (Nat.mod_eq_of_lt (by omega)))
    (newMax_apply e (scale m c e t) (iblk m c 5 t) μ b)
  simp only [newSum_apply, newAcc_apply]
  exact h'

/-- The buffers after the first point. -/
theorem first (hL : ∀ b n, kerLogit m c b n = (L b n : EReal)) (h : 0 < cfg0.N) :
    Transposed m c (outsAt0 m c 0 h).2.2.2.2
      ∧ Good m c L 1 (outsAt0 m c 0 h).2.1 (outsAt0 m c 0 h).2.2.1 (outsAt0 m c 0 h).2.2.2.1 := by
  have he : Transposed m c (k0_pay8 (F := Ideal) (iblk m c 0 ⟨0, h⟩)) := emb_apply m c ⟨0, h⟩
  obtain ⟨r, hr⟩ := init_max
  have h0 : Good m c L 0 (k0_pay5 (F := Ideal)) (k0_pay6 (F := Ideal)) (k0_pay7 (F := Ideal)) := fun b => by
    simp only [init_acc, init_sum, hr]
    exact Seen.zero ..
  rw [outsAt0_zero, stAt0_A m c ⟨0, h⟩ junk0 (by dsimp only) (by dsimp only; omega), emb_A, acc_A, sum_A, max_A]
  exact ⟨he, h0.step hL he ⟨0, h⟩⟩

/-- The buffers after a middle point. -/
theorem middle (hL : ∀ b n, kerLogit m c b n = (L b n : EReal)) (n : ℕ) (h : n + 1 < cfg0.N) (hn : n + 1 < 3)
    (ih : Transposed m c (outsAt0 m c n (Nat.lt_of_succ_lt h)).2.2.2.2 ∧ Good m c L (n + 1) (outsAt0 m c n (Nat.lt_of_succ_lt h)).2.1
      (outsAt0 m c n (Nat.lt_of_succ_lt h)).2.2.1 (outsAt0 m c n (Nat.lt_of_succ_lt h)).2.2.2.1) :
    Transposed m c (outsAt0 m c (n + 1) h).2.2.2.2 ∧ Good m c L (n + 2) (outsAt0 m c (n + 1) h).2.1
      (outsAt0 m c (n + 1) h).2.2.1 (outsAt0 m c (n + 1) h).2.2.2.1 := by
  rw [outsAt0_succ, stAt0_B m c ⟨n + 1, h⟩ _ (by dsimp only; omega) (by dsimp only; omega), acc_B, sum_B, max_B]
  exact ⟨ih.1, ih.2.step hL ih.1 ⟨n + 1, h⟩⟩

/-- The kernel's entry: the softmax average of the slots by its logits. -/
theorem kernel_apply (hL : ∀ b n, kerLogit m c b n = (L b n : EReal)) (b : Fin 16) (d : Fin 1024) :
    G6 m c (ix2 b d)
      = ∑ n, ((Real.exp (L b n) / ∑ i, Real.exp (L b i) : ℝ) : EReal) * flat (argM m c) n d := by
  have hN : cfg0.N = 4 := N_0
  have h3 : 3 < cfg0.N := by omega
  have i0 := first hL (by omega)
  have i1 := middle hL 0 (by omega) (by decide) i0
  have i2 := middle hL 1 (by omega) (by decide) i1
  rw [G6_last, ← outsAt0_sweep m c 3 h3, outsAt0_succ, stAt0_C m c ⟨3, h3⟩ _ (by dsimp only; omega) (by dsimp only), out_C]
  dsimp only
  rw [quotient_apply]
  have i3 := (i2.2.step hL i2.1 ⟨3, h3⟩) b
  refine (i3.quotient (Nat.succ_pos _) d).trans ?_
  rw [sum_slots, sum_slots fun i => Real.exp (L b i)]
  rfl

end Cert.Attend

end
-- ==== Proof.Sharpen.lean ====
/-
  THE SHARPENED SOFTMAX. Raising a softmax to a power and dividing by the sum of the powers is the softmax of the logits
  times that power: the normaliser and the subtracted maximum cancel.
-/
module

public import proofs.«01_k».proof.Proof.Sums

@[expose] public section

noncomputable section

namespace Cert.Attend

open Idealize.ShloMosaic

/-- `(exp (l n - M) / Z) ^ s`, normalised over `n`, is the softmax of `s * l n`: over the reals, for any `M` and any `Z > 0`. -/
theorem sharpened {N : ℕ} (l : Fin N → ℝ) (s M Z : ℝ) (hZ : 0 < Z) (n : Fin N) :
    Real.rpow (Real.exp (l n - M) / Z) s * (1 / ∑ i, Real.rpow (Real.exp (l i - M) / Z) s)
      = Real.exp (s * l n) / ∑ i, Real.exp (s * l i) := by
  have h : ∀ i, Real.rpow (Real.exp (l i - M) / Z) s = Real.exp (s * l i) * (Real.exp (-(s * M)) / Z ^ s) := fun i => by
    show (Real.exp (l i - M) / Z) ^ s = _
    rw [Real.div_rpow (Real.exp_pos _).le hZ.le, ← Real.exp_mul, mul_div_assoc', ← Real.exp_add]
    congr 2; ring
  simp only [h, ← Finset.sum_mul]
  rw [mul_one_div, mul_div_mul_right]
  exact (div_pos (Real.exp_pos _) (Real.rpow_pos_of_pos hZ s)).ne'

/-- The reference's weights: the softmax of real logits, raised to a real power, divided by the sum of the powers, and the
    entries weighted by them. The result is the average of the entries by the softmax of the logits times the power. -/
theorem sharpened_average {N : ℕ} [NeZero N] (l : Fin N → ℝ) (s : ℝ) (x : Fin N → EReal) {ℓ p w v : Fin N → EReal} {mx σ : EReal}
    (hl : ∀ n, ℓ n = (l n : EReal)) (σs : σ = (s : EReal)) (hmx : mx = max ⊥ (Finset.univ.fold max ⊥ ℓ))
    (hp : ∀ n, p n = Ideal.exp (ℓ n - mx)) (hw : ∀ n, w n = Ideal.pow (Ideal.div (p n) (0 + ∑ i, p i)) σ)
    (hv : ∀ n, v n = Ideal.div (w n) (0 + ∑ i, w i)) :
    ∑ n, v n * x n = ∑ n, ((Real.exp (s * l n) / ∑ i, Real.exp (s * l i) : ℝ) : EReal) * x n := by
  obtain rfl : ℓ = fun n => (l n : EReal) := funext hl
  subst σs
  obtain ⟨M, hM⟩ := fold_max_coe l
  obtain rfl : mx = (M : EReal) := by rw [hmx, hM, max_eq_right bot_le]
  have hp' : ∀ n, p n = ((Real.exp (l n - M) : ℝ) : EReal) := fun n => by rw [hp, exp_sub_coe]
  set Z : ℝ := ∑ n, Real.exp (l n - M) with hZdef
  have hZ : 0 < Z := Finset.sum_pos (fun _ _ => Real.exp_pos _) ⟨0, Finset.mem_univ _⟩
  have hw' : ∀ n, w n = ((Real.rpow (Real.exp (l n - M) / Z) s : ℝ) : EReal) := fun n => by
    rw [hw]
    simp only [hp', zero_add]
    rw [← coe_sum, ← hZdef, Ideal.div_coe hZ.ne', ← EReal.coe_mul, mul_one_div, Ideal.pow_coe_coe]
  have hWpos : 0 < ∑ i, Real.rpow (Real.exp (l i - M) / Z) s :=
    Finset.sum_pos (fun i _ => Real.rpow_pos_of_pos (div_pos (Real.exp_pos _) hZ) s) ⟨0, Finset.mem_univ _⟩
  refine Finset.sum_congr rfl fun n _ => ?_
  congr 1
  rw [hv]
  simp only [hw', zero_add]
  rw [← coe_sum, Ideal.div_coe hWpos.ne', ← EReal.coe_mul, sharpened l s M Z hZ n]

end Cert.Attend

end
-- ==== Proof.Finite.lean ====
/-
  THE PRECONDITION: the embedding and the two heads' weights are reals, and the heads' constants are below `∞`.
-/
module

public import proofs.«01_k».proof.Defs
public import proofs.«01_k».proof.Proof.Gen.Pre_finite_inputs
public import proofs.«01_k».proof.Proof.Flat

@[expose] public section

set_option maxRecDepth 16384

noncomputable section

namespace Cert.Attend

open Idealize.ShloMosaic Idealize.ShloMosaic.TcCoe

attribute [local instance] Cert.Pre_finite_inputs.Gen.facts

/-- The word of `∞`. -/
theorem top_word : Ideal.ofBits .f32 0x7F800000#32 = ⊤ := by simp [Ideal.ofBits, Ideal.ieee]

/-- An extended real whose absolute value is below `⊤` is a real. -/
theorem real_of_abs_lt {x : EReal} (h : max x (-x) < ⊤) : ∃ r : ℝ, x = (r : EReal) := by
  induction x with
  | bot => simp at h
  | top => simp at h
  | coe r => exact ⟨r, rfl⟩

/-- Where the comparison with `∞` reads one, the entry is a real. -/
theorem real_of_cmp {x : EReal} (h : FloatOps.cmpf (F := Ideal) (φ := .f32) .olt (FloatOps.absf (F := Ideal) (φ := .f32) x)
    (Ideal.ofBits .f32 0x7F800000#32) = 1#1) : ∃ r : ℝ, x = (r : EReal) := by
  rw [top_word, Ideal.absf_def, Ideal.cmpf_def] at h
  refine real_of_abs_lt ?_
  by_contra hn
  simp [Ideal.cmp, hn] at h

/-- Where the comparison of the entry itself reads one, it is below `∞`. -/
theorem lt_top_of_cmp {x : EReal} (h : FloatOps.cmpf (F := Ideal) (φ := .f32) .olt x (Ideal.ofBits .f32 0x7F800000#32) = 1#1) :
    x < ⊤ := by
  rw [top_word, Ideal.cmpf_def] at h
  by_contra hn
  simp [Ideal.cmp, hn] at h

variable {m : (ℓ : Loc Cert.KernelIdeal.nD Cert.KernelIdeal.τ Cert.KernelIdeal.sig) → Buf (Elt Ideal) ℓ}

theorem finite0 (h : Cert.Pre_KernelIdeal_finite_inputs m) (c : Dev Cert.KernelIdeal.nD) (i) :
    ∃ r : ℝ, m ((c.tc : Thread Cert.KernelIdeal.nD Cert.KernelIdeal.τ).loc Cert.KernelIdeal.main_arg0) i = (r : EReal) :=
  real_of_cmp (congrFun (h c).1 i)

theorem finite2 (h : Cert.Pre_KernelIdeal_finite_inputs m) (c : Dev Cert.KernelIdeal.nD) (i) :
    ∃ r : ℝ, m ((c.tc : Thread Cert.KernelIdeal.nD Cert.KernelIdeal.τ).loc Cert.KernelIdeal.main_arg2) i = (r : EReal) :=
  real_of_cmp (congrFun (h c).2.1 i)

theorem below3 (h : Cert.Pre_KernelIdeal_finite_inputs m) (c : Dev Cert.KernelIdeal.nD) (i) :
    (show EReal from m ((c.tc : Thread Cert.KernelIdeal.nD Cert.KernelIdeal.τ).loc Cert.KernelIdeal.main_arg3) i) < ⊤ :=
  lt_top_of_cmp (congrFun (h c).2.2.1 i)

theorem finite4 (h : Cert.Pre_KernelIdeal_finite_inputs m) (c : Dev Cert.KernelIdeal.nD) (i) :
    ∃ r : ℝ, m ((c.tc : Thread Cert.KernelIdeal.nD Cert.KernelIdeal.τ).loc Cert.KernelIdeal.main_arg4) i = (r : EReal) :=
  real_of_cmp (congrFun (h c).2.2.2.1 i)

theorem below5 (h : Cert.Pre_KernelIdeal_finite_inputs m) (c : Dev Cert.KernelIdeal.nD) (i) :
    (show EReal from m ((c.tc : Thread Cert.KernelIdeal.nD Cert.KernelIdeal.τ).loc Cert.KernelIdeal.main_arg5) i) < ⊤ :=
  lt_top_of_cmp (congrFun (h c).2.2.2.2 i)

end Cert.Attend

end
-- ==== Proof.Equation.lean ====
/-
  THE EQUATION. With a real embedding, real weights of the heads and constants below `∞` the reference's logits are reals `l`, its sharpening a real `σ`, and
  the kernel's logits are `σ l`. The kernel's softmax of `σ l` is the reference's softmax of `l` raised to the power `σ` and
  normalised again.
-/
module

public import proofs.«01_k».proof.Proof.Fold
public import proofs.«01_k».proof.Proof.Sharpen
public import proofs.«01_k».proof.Proof.Finite

@[expose] public section

noncomputable section

namespace Cert.Attend

open Idealize.ShloMosaic Idealize.ShloMosaic.TcCoe
open Cert.KernelIdeal Cert.KernelIdeal.Gen Cert.KernelIdeal.Value

attribute [local instance] Cert.Pre_finite_inputs.Gen.facts

variable {m : (ℓ : Loc nD τ sig) → Buf (Elt Ideal) ℓ}

/-- The logits of row `b` on both sides. -/
theorem row_logits (h : Cert.Pre_KernelIdeal_finite_inputs m) (c : Dev nD) (b : Fin 16) :
    ∃ (σ : ℝ) (l : Fin 16384 → ℝ), sharpness (argE m c) (argW' m c) (argB' m c) b = (σ : EReal)
      ∧ (∀ n, refLogit (argE m c) (argM m c) (argW m c) (argB m c) b n = (l n : EReal))
      ∧ ∀ n, kerLogit m c b n = ((σ * l n : ℝ) : EReal) := by
  choose e he using fun d : Fin 1024 => finite0 h c (ix4 b ⟨d / 64, by omega⟩ ⟨d / 8 % 8, by omega⟩ ⟨d % 8, by omega⟩)
  choose w hw using fun d : Fin 1024 => finite2 h c (ix2 d 0)
  choose w' hw' using fun d : Fin 1024 => finite4 h c (ix2 d 0)
  have hE : flat (argE m c) b = fun d => (e d : EReal) := funext he
  have hW : (fun d : Fin 1024 => argW m c (ix2 d 0)) = fun d => (w d : EReal) := funext hw
  have hW' : (fun d : Fin 1024 => argW' m c (ix2 d 0)) = fun d => (w' d : EReal) := funext hw'
  have ht : strength (argE m c) (argW m c) (argB m c) b
      = softplus (linear (fun d => (e d : EReal)) (fun d => (w d : EReal)) (argB m c (ix1 0))) := by
    unfold strength
    rw [hE, hW]
  have hs : sharpness (argE m c) (argW' m c) (argB' m c) b
      = 1 + softplus (linear (fun d => (e d : EReal)) (fun d => (w' d : EReal)) (argB' m c (ix1 0))) := by
    unfold sharpness
    rw [hE, hW']
  obtain ⟨σ, l, h1, h2, h3⟩ := logits e w w' (below3 h c (ix1 0)) (below5 h c (ix1 0)) (fun n => flat (argM m c) n) ht hs
  refine ⟨σ, l, h1, fun n => ?_, fun n => ?_⟩
  · unfold refLogit
    rw [hE]
    exact h2 n
  · unfold kerLogit
    rw [hE]
    exact h3 n

/-- The kernel's entry is the reference's. -/
theorem kernel_eq_reference (h : Cert.Pre_KernelIdeal_finite_inputs m) (c : Dev nD) (b : Fin 16) (d : Fin 1024) :
    G6 m c (ix2 b d)
      = refRead (argE m c) (argM m c) (argW m c) (argW' m c) (argB m c) (argB' m c) b d := by
  choose σ l hσ hl hL using row_logits h c
  rw [kernel_apply (L := fun b n => σ b * l b n) hL b d]
  exact (sharpened_average (l b) (σ b) (fun n => flat (argM m c) n d) (p := refExp (argE m c) (argM m c) (argW m c) (argB m c) b)
    (w := refPow (argE m c) (argM m c) (argW m c) (argW' m c) (argB m c) (argB' m c) b) (hl b) (hσ b) rfl (fun _ => rfl)
    (fun _ => by rw [zero_add]; rfl) fun _ => by rw [zero_add]).symm

end Cert.Attend

end
-- ==== Proof.RefValue.lean ====
/-
  WHAT THE REFERENCE COMPUTES, entry by entry, over the extended reals.
-/
module

public import proofs.«01_k».proof.Proof.Gen.ReferenceIdeal.Run
public import proofs.«01_k».proof.Proof.Flat

@[expose] public section

set_option maxRecDepth 16384

noncomputable section

namespace Cert.Attend

open Idealize.ShloMosaic Idealize.ShloMosaic.TcCoe
open Cert.ReferenceIdeal Cert.ReferenceIdeal.Value

/-- The reference's result, entry by entry. -/
theorem reference_apply (m : (ℓ : Loc nD τ sig) → Buf (Elt Ideal) ℓ) (c : Dev nD) (b : Fin 16) (d : Fin 1024) :
    res_main_v45 (F := Ideal) m c (ix2 b d)
      = refRead (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg3)) (m ((c.tc : Thread nD τ).loc main_arg5)) b d := by
  unfold res_main_v45
  pointwise []
  simp only [ne_eq, not_true_eq_false, ↓reduceIte, bot_word, Ideal.absf_def]
  rfl

end Cert.Attend

end
-- ==== Proof.Exact.lean ====
/-
  WHAT reference.py COMPUTES AS IT STANDS, entry by entry, over the extended reals: `1e-8` is added to each softmax weight
  before it is raised to the sharpening.
-/
module

public import proofs.«01_k».proof.Proof.Gen.ReferenceExactIdeal.Run
public import proofs.«01_k».proof.Proof.Flat

@[expose] public section

set_option maxRecDepth 16384

noncomputable section

namespace Cert.Attend

open Idealize.ShloMosaic Idealize.ShloMosaic.TcCoe
open Cert.ReferenceExactIdeal Cert.ReferenceExactIdeal.Value

section Definitions

variable (E : FVec Ideal ⟨4, ![16, 16, 8, 8]⟩ .f32) (M : FVec Ideal ⟨4, ![16384, 16, 8, 8]⟩ .f32)
  (W W' : FVec Ideal ⟨2, ![1024, 1]⟩ .f32) (B B' : FVec Ideal ⟨1, ![1]⟩ .f32)

/-- The softmax weight with `eps` added, raised to the sharpening. -/
def exactPow (b : Fin 16) (n : Fin 16384) : EReal :=
  Ideal.pow (Ideal.div (refExp E M W B b n) (∑ i, refExp E M W B b i) + eps) (sharpness E W' B' b)

/-- The entry: the slots averaged by the renormalised powers. -/
def exactRead (b : Fin 16) (d : Fin 1024) : EReal :=
  ∑ n, Ideal.div (exactPow E M W W' B B' b n) (∑ i, exactPow E M W W' B B' b i) * flat M n d

end Definitions

/-- The result of reference.py, entry by entry. -/
theorem exact_apply (m : (ℓ : Loc nD τ sig) → Buf (Elt Ideal) ℓ) (c : Dev nD) (b : Fin 16) (d : Fin 1024) :
    res_main_v47 (F := Ideal) m c (ix2 b d)
      = exactRead (m ((c.tc : Thread nD τ).loc main_arg0)) (m ((c.tc : Thread nD τ).loc main_arg1))
          (m ((c.tc : Thread nD τ).loc main_arg2)) (m ((c.tc : Thread nD τ).loc main_arg4))
          (m ((c.tc : Thread nD τ).loc main_arg3)) (m ((c.tc : Thread nD τ).loc main_arg5)) b d := by
  unfold res_main_v47
  pointwise []
  simp only [ne_eq, not_true_eq_false, ↓reduceIte, bot_word, Ideal.absf_def]
  rfl

end Cert.Attend

end
-- ==== Proof.Addend.lean ====
/-
  THE ADDEND MATTERS. Adding `1e-8` to the softmax weights before they are raised to the sharpening changes the result: with an
  embedding of ones, both heads at zero, one memory slot of ones and the others zero, reference.py's first entry is not the one
  it has without the addend.
-/
module

public import proofs.«01_k».proof.Proof.Exact
public import proofs.«01_k».proof.Proof.Sharpen

@[expose] public section

noncomputable section

namespace Cert.Attend

open Idealize.ShloMosaic

/-- The weights of reference.py, for real logits `l` and a real sharpening `s`: up to one factor `k` the softmax weight is
    `exp (l n)`; `ε` is added to it, the sum is raised to the power `s`, and the powers are normalised. -/
theorem exact_average {N : ℕ} [NeZero N] (l : Fin N → ℝ) (s : ℝ) (x : Fin N → EReal) {ε : ℝ} (hε : 0 < ε)
    {ℓ p w v : Fin N → EReal} {mx σ : EReal}
    (hl : ∀ n, ℓ n = (l n : EReal)) (σs : σ = (s : EReal)) (hmx : mx = max ⊥ (Finset.univ.fold max ⊥ ℓ))
    (hp : ∀ n, p n = Ideal.exp (ℓ n - mx)) (hw : ∀ n, w n = Ideal.pow (Ideal.div (p n) (∑ i, p i) + (ε : EReal)) σ)
    (hv : ∀ n, v n = Ideal.div (w n) (∑ i, w i)) :
    ∃ k : ℝ, 0 < k ∧ ∑ n, v n * x n
      = ∑ n, (((k * Real.exp (l n) + ε) ^ s / ∑ i, (k * Real.exp (l i) + ε) ^ s : ℝ) : EReal) * x n := by
  obtain rfl : ℓ = fun n => (l n : EReal) := funext hl
  subst σs
  obtain ⟨M, hM⟩ := fold_max_coe l
  obtain rfl : mx = (M : EReal) := by rw [hmx, hM, max_eq_right bot_le]
  have hp' : ∀ n, p n = ((Real.exp (l n - M) : ℝ) : EReal) := fun n => by rw [hp, exp_sub_coe]
  set Z : ℝ := ∑ n, Real.exp (l n - M) with hZdef
  have hZ : 0 < Z := Finset.sum_pos (fun _ _ => Real.exp_pos _) ⟨0, Finset.mem_univ _⟩
  have hk : 0 < Real.exp (-M) / Z := div_pos (Real.exp_pos _) hZ
  refine ⟨Real.exp (-M) / Z, hk, ?_⟩
  have hw' : ∀ n, w n = (((Real.exp (-M) / Z * Real.exp (l n) + ε) ^ s : ℝ) : EReal) := fun n => by
    have he : Real.exp (l n - M) * (1 / Z) = Real.exp (-M) / Z * Real.exp (l n) := by
      rw [sub_eq_add_neg, Real.exp_add]; ring
    rw [hw]
    simp only [hp']
    rw [← coe_sum, ← hZdef, Ideal.div_coe hZ.ne', ← EReal.coe_mul, he, ← EReal.coe_add, Ideal.pow_coe_coe]
    rfl
  have hpos : 0 < ∑ i, (Real.exp (-M) / Z * Real.exp (l i) + ε) ^ s := Finset.sum_pos
    (fun i _ => Real.rpow_pos_of_pos (add_pos (mul_pos hk (Real.exp_pos _)) hε) s) ⟨0, Finset.mem_univ _⟩
  refine Finset.sum_congr rfl fun n _ => ?_
  congr 1
  rw [hv]
  simp only [hw']
  rw [← coe_sum, Ideal.div_coe hpos.ne', ← EReal.coe_mul, mul_one_div]

/-- A sum whose terms are all equal but the first. -/
theorem sum_first {N : ℕ} [NeZero N] (f : Fin N → ℝ) {a b : ℝ} (h0 : f 0 = a) (h : ∀ n, n ≠ 0 → f n = b) :
    ∑ n, f n = a + ((N - 1 : ℕ) : ℝ) * b := by
  rw [← Finset.add_sum_erase _ f (Finset.mem_univ 0), h0, Finset.sum_congr rfl (g := fun _ => b)
    fun n hn => h n (Finset.ne_of_mem_erase hn), Finset.sum_const, Finset.card_erase_of_mem (Finset.mem_univ _),
    Finset.card_univ, Fintype.card_fin, nsmul_eq_mul]

/-- With one weight `u` against `K` weights one, adding `ε` to all of them before the power changes the first one's share
    unless `u` is one too. -/
theorem share_ne {u k ε s K : ℝ} (hu : 0 < u) (hu1 : u ≠ 1) (hk : 0 < k) (hε : 0 < ε) (hs : s ≠ 0) (hK : 0 < K) :
    (k * u + ε) ^ s / ((k * u + ε) ^ s + K * (k * 1 + ε) ^ s) ≠ u ^ s / (u ^ s + K * 1) := by
  have ha : 0 < k * u + ε := by positivity
  have hb : 0 < k * 1 + ε := by positivity
  have hA := Real.rpow_pos_of_pos ha s
  have hB := Real.rpow_pos_of_pos hb s
  have hU := Real.rpow_pos_of_pos hu s
  intro h
  rw [div_eq_div_iff (by positivity) (by positivity)] at h
  have h1 : (k * u + ε) ^ s = u ^ s * (k * 1 + ε) ^ s := by
    have : K * (k * u + ε) ^ s = K * (u ^ s * (k * 1 + ε) ^ s) := by linarith
    exact mul_left_cancel₀ hK.ne' this
  rw [← Real.mul_rpow hu.le hb.le, Real.rpow_left_inj ha.le (by positivity) hs] at h1
  have : (u - 1) * ε = 0 := by linarith
  exact hu1 (by rcases mul_eq_zero.mp this with h | h <;> linarith)

/-- `softplus 0` is `log 2`. -/
theorem softplus_zero : softplus 0 = ((Real.log 2 : ℝ) : EReal) := by
  unfold softplus Ideal.log1p
  rw [neg_zero, max_self, neg_zero, ← EReal.coe_zero, Ideal.exp_coe, Real.exp_zero, ← EReal.coe_one, ← EReal.coe_add,
    Ideal.log_coe, if_neg (by norm_num), ← EReal.coe_add]
  norm_num

/-- The embedding of ones. -/
def onesE : FVec Ideal ⟨4, ![16, 16, 8, 8]⟩ .f32 := fun _ => (1 : EReal)

/-- The memory whose slot 0 holds ones and whose other slots hold zeros. -/
def oneSlot : FVec Ideal ⟨4, ![16384, 16, 8, 8]⟩ .f32 := fun i => if (i 0).val = 0 then (1 : EReal) else 0

/-- Zero weights of a head. -/
def zeroW : FVec Ideal ⟨2, ![1024, 1]⟩ .f32 := fun _ => (0 : EReal)

/-- The zero constant of a head. -/
def zeroB : FVec Ideal ⟨1, ![1]⟩ .f32 := fun _ => (0 : EReal)

theorem flat_onesE (b : Fin 16) : flat onesE b = fun _ => ((1 : ℝ) : EReal) := rfl

theorem flat_oneSlot_zero : flat oneSlot 0 = fun _ => ((1 : ℝ) : EReal) := rfl

theorem flat_oneSlot_ne {n : Fin 16384} (h : n ≠ 0) (d : Fin 1024) : flat oneSlot n d = 0 :=
  if_neg fun h0 => h (Fin.ext h0)

/-- Both heads' linear forms are zero. -/
theorem linear_zero (b : Fin 16) : linear (flat onesE b) (fun d => zeroW (ix2 d 0)) (zeroB (ix1 0)) = 0 := by
  unfold linear zeroW zeroB
  simp

theorem strength_zero (b : Fin 16) : strength onesE zeroW zeroB b = ((Real.log 2 : ℝ) : EReal) := by
  unfold strength
  rw [linear_zero, softplus_zero]

theorem sharpness_zero (b : Fin 16) : sharpness onesE zeroW zeroB b = ((1 + Real.log 2 : ℝ) : EReal) := by
  unfold sharpness
  rw [linear_zero, softplus_zero, EReal.coe_add, EReal.coe_one]

/-- The logits: a positive one at slot 0, zero elsewhere. -/
theorem logits_oneSlot (b : Fin 16) : ∃ a : ℝ, 0 < a
    ∧ ∀ n, refLogit onesE oneSlot zeroW zeroB b n = ((if n = 0 then a else 0 : ℝ) : EReal) := by
  obtain ⟨ν, hν, hn⟩ := norm_coe fun _ : Fin 1024 => (1 : ℝ)
  refine ⟨Real.log 2 * ∑ _d : Fin 1024, (1 * (1 / ν)) * (1 * (1 / ν)), mul_pos (Real.log_pos (by norm_num))
    (Finset.sum_pos (fun _ _ => by positivity) ⟨0, Finset.mem_univ _⟩), fun n => ?_⟩
  unfold refLogit
  rw [strength_zero]
  by_cases h : n = 0
  · subst h
    rw [if_pos rfl, flat_onesE, flat_oneSlot_zero, hn, EReal.coe_mul, coe_sum]
    simp only [Ideal.div_coe hν.ne', ← EReal.coe_mul]
  · have hz := flat_oneSlot_ne h
    have hd : ∀ y : EReal, y ≠ 0 → Ideal.div 0 y = 0 := fun y hy => by
      unfold Ideal.div
      rw [if_neg hy, zero_mul]
    have hnz : norm (flat oneSlot n) ≠ 0 := by
      obtain ⟨κ, hκ, hk⟩ := norm_coe fun _ : Fin 1024 => (0 : ℝ)
      rw [show flat oneSlot n = fun _ => ((0 : ℝ) : EReal) from funext fun d => (hz d).trans EReal.coe_zero.symm, hk]
      exact EReal.coe_ne_zero.mpr hκ.ne'
    simp only [hz, hd _ hnz, mul_zero, Finset.sum_const_zero, if_neg h, EReal.coe_zero]

/-- On these arrays the entry of row `b` and column `d` with the addend is not the one without it. -/
theorem exact_ne_reference (b : Fin 16) (d : Fin 1024) :
    exactRead onesE oneSlot zeroW zeroW zeroB zeroB b d ≠ refRead onesE oneSlot zeroW zeroW zeroB zeroB b d := by
  obtain ⟨a, ha, hl⟩ := logits_oneSlot b
  obtain ⟨ε, hε, he⟩ := eps_coe
  set l : Fin 16384 → ℝ := fun n => if n = 0 then a else 0 with hldef
  have hs0 : (1 + Real.log 2 : ℝ) ≠ 0 := by
    have := Real.log_pos (by norm_num : (1 : ℝ) < 2)
    positivity
  obtain ⟨k, hk, h1⟩ := exact_average l (1 + Real.log 2) (fun n => flat oneSlot n d) hε
    (p := refExp onesE oneSlot zeroW zeroB b) (w := exactPow onesE oneSlot zeroW zeroW zeroB zeroB b) hl (sharpness_zero b) rfl
    (fun _ => rfl) (fun _ => by rw [← he]; rfl) fun _ => rfl
  have h2 := sharpened_average l (1 + Real.log 2) (fun n => flat oneSlot n d) (p := refExp onesE oneSlot zeroW zeroB b)
    (w := refPow onesE oneSlot zeroW zeroW zeroB zeroB b) hl (sharpness_zero b) rfl (fun _ => rfl)
    (fun _ => by rw [zero_add]; rfl) fun _ => by rw [zero_add]
  have pick : ∀ f : Fin 16384 → ℝ, ∑ n, (f n : EReal) * flat oneSlot n d = (f 0 : EReal) := fun f => by
    rw [Finset.sum_eq_single 0 (fun n _ hn => by rw [flat_oneSlot_ne hn, mul_zero])
      fun h => absurd (Finset.mem_univ _) h, flat_oneSlot_zero, EReal.coe_one, mul_one]
  intro h
  have hq := EReal.coe_injective (((pick _).symm.trans (h1.symm.trans (h.trans h2))).trans (pick _))
  have l0 : l 0 = a := if_pos rfl
  have ln : ∀ n, n ≠ 0 → l n = 0 := fun n hn => if_neg hn
  rw [sum_first (a := (k * Real.exp a + ε) ^ (1 + Real.log 2)) (b := (k * 1 + ε) ^ (1 + Real.log 2)) _ (by rw [l0])
      (fun n hn => by rw [ln n hn, Real.exp_zero]),
    sum_first (a := Real.exp a ^ (1 + Real.log 2)) (b := 1) _ (by rw [l0, mul_comm, Real.exp_mul])
      (fun n hn => by rw [ln n hn, mul_zero, Real.exp_zero]),
    l0, mul_comm (1 + Real.log 2) a, Real.exp_mul] at hq
  exact share_ne (Real.exp_pos a) (Real.one_lt_exp_iff.mpr ha).ne' hk hε hs0 (by norm_num) hq

end Cert.Attend

end
-- ==== Proof.Differs.lean ====
/-
  THE KERNEL AND reference.py AS IT STANDS. There are argument arrays, meeting the precondition, from which the kernel and
  reference.py end with different results: over the extended reals the kernel does not compute reference.py.
-/
module

public import proofs.«01_k».proof.Proof.Equation
public import proofs.«01_k».proof.Proof.Addend
public import Idealize.ShloMosaic.Lib.MeshMemory

@[expose] public section

noncomputable section

namespace Cert.Attend

open Idealize.ShloMosaic Idealize.ShloMosaic.TcCoe Idealize.SL.Sem

attribute [local instance] Cert.KernelIdeal.Gen.facts Cert.ReferenceExactIdeal.Gen.facts Cert.Pre_finite_inputs.Gen.facts

/-- A real is below infinity in absolute value. -/
theorem cmp_of_real {x : EReal} (r : ℝ) (hx : x = (r : EReal)) : FloatOps.cmpf (F := Ideal) (φ := .f32) .olt
    (FloatOps.absf (F := Ideal) (φ := .f32) x) (Ideal.ofBits .f32 0x7F800000#32) = 1#1 := by
  subst hx
  rw [top_word, Ideal.absf_def, Ideal.cmpf_def]
  have h : max (r : EReal) (-(r : EReal)) < ⊤ := by
    rw [← EReal.coe_neg, ← coe_max]
    exact EReal.coe_lt_top _
  simp [Ideal.cmp, h]

/-- Zero is below infinity. -/
theorem cmp_of_zero {x : EReal} (hx : x = 0) :
    FloatOps.cmpf (F := Ideal) (φ := .f32) .olt x (Ideal.ofBits .f32 0x7F800000#32) = 1#1 := by
  subst hx
  rw [top_word, Ideal.cmpf_def]
  simp [Ideal.cmp]

/-- The kernel's memory holds the arrays of the example. -/
def Holds (m : (ℓ : Loc Cert.KernelIdeal.nD Cert.KernelIdeal.τ Cert.KernelIdeal.sig) → Buf (Elt Ideal) ℓ) : Prop :=
  ∀ c : Dev Cert.KernelIdeal.nD, argE m c = onesE ∧ argM m c = oneSlot ∧ argW m c = zeroW ∧ argB m c = zeroB
    ∧ argW' m c = zeroW ∧ argB' m c = zeroB

/-- Some memory does. -/
theorem exists_holds : ∃ m, Holds m := by
  obtain ⟨m, h, _⟩ := MeshMemory.exists_memory (Val := Elt Ideal) (nD := Cert.KernelIdeal.nD) (τ := Cert.KernelIdeal.τ)
    (sig := Cert.KernelIdeal.sig) (ρ := id) Function.injective_id
    (b := fun k : Fin 6 => Proc.devRef (τ := Cert.KernelIdeal.τ) .tc (![Cert.KernelIdeal.main_arg0, Cert.KernelIdeal.main_arg1,
      Cert.KernelIdeal.main_arg2, Cert.KernelIdeal.main_arg3, Cert.KernelIdeal.main_arg4, Cert.KernelIdeal.main_arg5] k))
    (by decide)
    (fun _ k => match k with
      | 0 => onesE
      | 1 => oneSlot
      | 2 => zeroW
      | 3 => zeroB
      | 4 => zeroW
      | 5 => zeroB) Classical.ofNonempty
  exact ⟨m, fun c => ⟨h c 0, h c 1, h c 2, h c 3, h c 4, h c 5⟩⟩

/-- The memory of reference.py holds the arrays of the example. -/
def HoldsExact (m : (ℓ : Loc Cert.ReferenceExactIdeal.nD Cert.ReferenceExactIdeal.τ Cert.ReferenceExactIdeal.sig) → Buf (Elt Ideal) ℓ) :
    Prop :=
  ∀ c : Dev Cert.ReferenceExactIdeal.nD,
    m ((c.tc : Thread Cert.ReferenceExactIdeal.nD Cert.ReferenceExactIdeal.τ).loc Cert.ReferenceExactIdeal.main_arg0) = onesE
    ∧ m ((c.tc : Thread Cert.ReferenceExactIdeal.nD Cert.ReferenceExactIdeal.τ).loc Cert.ReferenceExactIdeal.main_arg1) = oneSlot
    ∧ m ((c.tc : Thread Cert.ReferenceExactIdeal.nD Cert.ReferenceExactIdeal.τ).loc Cert.ReferenceExactIdeal.main_arg2) = zeroW
    ∧ m ((c.tc : Thread Cert.ReferenceExactIdeal.nD Cert.ReferenceExactIdeal.τ).loc Cert.ReferenceExactIdeal.main_arg3) = zeroB
    ∧ m ((c.tc : Thread Cert.ReferenceExactIdeal.nD Cert.ReferenceExactIdeal.τ).loc Cert.ReferenceExactIdeal.main_arg4) = zeroW
    ∧ m ((c.tc : Thread Cert.ReferenceExactIdeal.nD Cert.ReferenceExactIdeal.τ).loc Cert.ReferenceExactIdeal.main_arg5) = zeroB

/-- Some memory does. -/
theorem exists_holds_exact : ∃ m, HoldsExact m := by
  obtain ⟨m, h, _⟩ := MeshMemory.exists_memory (Val := Elt Ideal) (nD := Cert.ReferenceExactIdeal.nD)
    (τ := Cert.ReferenceExactIdeal.τ) (sig := Cert.ReferenceExactIdeal.sig) (ρ := id) Function.injective_id
    (b := fun k : Fin 6 => Proc.devRef (τ := Cert.ReferenceExactIdeal.τ) .tc (![Cert.ReferenceExactIdeal.main_arg0,
      Cert.ReferenceExactIdeal.main_arg1, Cert.ReferenceExactIdeal.main_arg2, Cert.ReferenceExactIdeal.main_arg3,
      Cert.ReferenceExactIdeal.main_arg4, Cert.ReferenceExactIdeal.main_arg5] k))
    (by decide)
    (fun _ k => match k with
      | 0 => onesE
      | 1 => oneSlot
      | 2 => zeroW
      | 3 => zeroB
      | 4 => zeroW
      | 5 => zeroB) Classical.ofNonempty
  exact ⟨m, fun c => ⟨h c 0, h c 1, h c 2, h c 3, h c 4, h c 5⟩⟩

variable {m : (ℓ : Loc Cert.KernelIdeal.nD Cert.KernelIdeal.τ Cert.KernelIdeal.sig) → Buf (Elt Ideal) ℓ}

/-- The arrays of the example meet the precondition. -/
theorem Holds.pre (h : Holds m) : Cert.Pre_KernelIdeal_finite_inputs m := fun c => by
  obtain ⟨h0, _, h2, h3, h4, h5⟩ := h c
  exact ⟨funext fun i => cmp_of_real 1 (congrFun h0 i),
    funext fun i => cmp_of_real 0 (congrFun h2 i),
    funext fun i => cmp_of_zero (congrFun h3 i),
    funext fun i => cmp_of_real 0 (congrFun h4 i),
    funext fun i => cmp_of_zero (congrFun h5 i)⟩

/-- From the arrays of the example every run of the kernel ends with the result `v` and every run of reference.py with the
    result `v'`, and no entry of `v` is the same entry of `v'`. -/
theorem kernel_differs_from_exact : ∃ m m', Cert.Pre_KernelIdeal_finite_inputs m ∧ Holds m ∧ HoldsExact m' ∧
    ∃ (v v' : FVec Ideal ⟨2, ![16, 1024]⟩ .f32), (∀ i, v i ≠ v' i)
      ∧ (∀ ρ, θ_run (Cert.KernelIdeal.defs (F := Ideal)) (onTc (τ := Cert.KernelIdeal.τ) (Cert.KernelIdeal.main (F := Ideal)))
          ⟨m, fun _ => 0, ρ⟩ fun r => ∀ c : Dev Cert.KernelIdeal.nD,
            r.2.mem ((c.tc : Thread Cert.KernelIdeal.nD Cert.KernelIdeal.τ).loc Cert.KernelIdeal.main_v0) = v)
      ∧ ∀ ρ, θ_run (Cert.ReferenceExactIdeal.defs (F := Ideal))
          (onTc (τ := Cert.ReferenceExactIdeal.τ) (Cert.ReferenceExactIdeal.main (F := Ideal)))
          ⟨m', fun _ => 0, ρ⟩ fun r => ∀ c : Dev Cert.ReferenceExactIdeal.nD,
            r.2.mem ((c.tc : Thread Cert.ReferenceExactIdeal.nD Cert.ReferenceExactIdeal.τ).loc Cert.ReferenceExactIdeal.main_v47) = v' := by
  obtain ⟨m, h⟩ := exists_holds
  obtain ⟨m', h'⟩ := exists_holds_exact
  refine ⟨m, m', h.pre, h, h', fun i => refRead onesE oneSlot zeroW zeroW zeroB zeroB (i 0) (i 1),
    fun i => exactRead onesE oneSlot zeroW zeroW zeroB zeroB (i 0) (i 1), fun i => (exact_ne_reference (i 0) (i 1)).symm,
    fun ρ => ?_, fun ρ => ?_⟩
  · refine (θ_run Cert.KernelIdeal.defs _ _).mono (fun _ hr c => (hr c).1.trans ?_) (Cert.KernelIdeal.Value.run (F := Ideal) m ρ)
    obtain ⟨h0, h1, h2, h3, h4, h5⟩ := h c
    funext i
    obtain ⟨b, d, rfl⟩ : ∃ (b : Fin 16) (d : Fin 1024), i = ix2 b d := ⟨i 0, i 1, eq_ix2 i⟩
    rw [kernel_eq_reference h.pre c b d, h0, h1, h2, h3, h4, h5]
    rfl
  · refine (θ_run Cert.ReferenceExactIdeal.defs _ _).mono (fun _ hr c => (hr c).1.trans ?_)
      (Cert.ReferenceExactIdeal.Value.run (F := Ideal) m' ρ)
    obtain ⟨h0, h1, h2, h3, h4, h5⟩ := h' c
    funext i
    obtain ⟨b, d, rfl⟩ : ∃ (b : Fin 16) (d : Fin 1024), i = ix2 b d := ⟨i 0, i 1, eq_ix2 i⟩
    rw [exact_apply m' c b d, h0, h1, h2, h3, h4, h5]
    rfl

end Cert.Attend

end
-- ==== Proof.lean ====
/-
  THE CLAIM. The kernel, its idealization, the reference and reference.py run and keep their arguments; the
  idealization rewrites nothing; and over the extended reals, with a real embedding, real weights of the two heads and constants
  below `∞`, the kernel's result array is the reference's.
-/
module

public import proofs.«01_k».proof.Defs
public import proofs.«01_k».proof.Proof.Gen.Kernel.Frame
public import proofs.«01_k».proof.Proof.Gen.KernelIdeal.Value
public import proofs.«01_k».proof.Proof.Gen.Pre_finite_inputs
public import proofs.«01_k».proof.Proof.Gen.ReferenceIdeal.Run
public import proofs.«01_k».proof.Proof.Gen.ReferenceExactIdeal.Run
public import proofs.«01_k».proof.Proof.Equation
public import proofs.«01_k».proof.Proof.RefValue
public import proofs.«01_k».proof.Proof.Differs
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.ShloMosaic.TcCoe Idealize.SL.Sem
open Cert.Attend

attribute [local instance] Cert.Kernel.Gen.facts Cert.KernelIdeal.Gen.facts Cert.ReferenceIdeal.Gen.facts
  Cert.ReferenceExactIdeal.Gen.facts Cert.Pre_finite_inputs.Gen.facts

/-- The reference runs and keeps its arguments. -/
theorem reference_quiescent : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from memories that satisfy the precondition. -/
theorem reference_quiescent_pre : quiescent_ReferenceIdeal_pre_finite_inputs := fun m ρ _ =>
  reference_quiescent m ρ trivial

/-- reference.py as it stands runs and keeps its arguments. Its result is not the kernel's (`kernel_differs_from_exact`). -/
theorem exact_quiescent : quiescent_ReferenceExactIdeal := fun m ρ _ =>
  (θ_run Cert.ReferenceExactIdeal.defs _ _).mono (fun r h => ⟨fun c => (h c).2, sem_eq_zero_of_no_sems (by decide) r.2⟩)
    (Cert.ReferenceExactIdeal.Value.run (F := Ideal) m ρ)

/-- The kernel's result is the reference's. -/
theorem results_agree : algebraic_KernelIdeal_ReferenceIdeal_pre_finite_inputs := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5⟩ := hagree c
  rw [(h c).1]
  funext i
  obtain ⟨b, d, rfl⟩ : ∃ (b : Fin 16) (d : Fin 1024), i = ix2 b d := ⟨i 0, i 1, eq_ix2 i⟩
  refine (reference_apply m' c b d).trans ?_
  rw [h0, h1, h2, h3, h4, h5]
  exact (kernel_eq_reference hpre c b d).symm

/-- Everything the certificate claims. -/
theorem claim : Claim :=
  ⟨Cert.Kernel.Gen.facts, Cert.KernelIdeal.Gen.facts, Cert.ReferenceIdeal.Gen.facts, Cert.ReferenceExactIdeal.Gen.facts,
    Cert.Pre_finite_inputs.Gen.facts,
    fun m ρ _ => Cert.Kernel.Gen.frame m ρ, fun m ρ _ => Cert.KernelIdeal.Gen.frame m ρ,
    fun m ρ _ => Cert.KernelIdeal.Gen.frame m ρ, reference_quiescent, reference_quiescent_pre, exact_quiescent,
    (trivial : preserves_Kernel_KernelIdeal), results_agree⟩

end Cert.Proof

end
